-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x16384 : Shape := ⟨3, ![32, 64, 16384]⟩
abbrev S2x64x16384 : Shape := ⟨3, ![2, 64, 16384]⟩
abbrev S64x64 : Shape := ⟨2, ![64, 64]⟩
abbrev S1x64x16384 : Shape := ⟨3, ![1, 64, 16384]⟩
abbrev S64x16384 : Shape := ⟨2, ![64, 16384]⟩
abbrev S64 : Shape := ⟨1, ![64]⟩
abbrev S64x1 : Shape := ⟨2, ![64, 1]⟩
abbrev S1x64 : Shape := ⟨2, ![1, 64]⟩
abbrev S1 : Shape := ⟨1, ![1]⟩
abbrev S1x1 : Shape := ⟨2, ![1, 1]⟩

abbrev nBuf : Space → Nat
  | .hbm => 2
  | .vmem => 7
  | .smem => 0
  | _ => 0

abbrev bufTy : (tb : Table) → Fin (tcTables nBuf tb) → BufTy
  | .hbm, ⟨0, _⟩ => ⟨S32x64x16384, .f32⟩
  | .hbm, ⟨1, _⟩ => ⟨S32x64x16384, .f32⟩
  | .local _ .vmem, ⟨0, _⟩ => ⟨S2x64x16384, .f32⟩
  | .local _ .vmem, ⟨1, _⟩ => ⟨S2x64x16384, .f32⟩
  | .local _ .vmem, ⟨2, _⟩ => ⟨S2x64x16384, .f32⟩
  | .local _ .vmem, ⟨3, _⟩ => ⟨S2x64x16384, .f32⟩
  | .local _ .vmem, ⟨4, _⟩ => ⟨S2x64x16384, .f32⟩
  | .local _ .vmem, ⟨5, _⟩ => ⟨S2x64x16384, .bf16⟩
  | .local _ .vmem, ⟨6, _⟩ => ⟨S2x64x16384, .bf16⟩
  | _, _ => ⟨S32x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x64x16384 : Shape := ⟨3, ![32, 64, 16384]⟩
abbrev S_ : Shape := ⟨0, ![]⟩
abbrev S32x64 : Shape := ⟨2, ![32, 64]⟩
abbrev S32x64x1 : Shape := ⟨3, ![32, 64, 1]⟩
abbrev S32x16384x64 : Shape := ⟨3, ![32, 16384, 64]⟩
abbrev S32x64x64 : Shape := ⟨3, ![32, 64, 64]⟩
abbrev S64x64 : Shape := ⟨2, ![64, 64]⟩
abbrev S1x64x64 : Shape := ⟨3, ![1, 64, 64]⟩
abbrev S32 : Shape := ⟨1, ![32]⟩
abbrev S32x1x1 : Shape := ⟨3, ![32, 1, 1]⟩

abbrev nBuf : Space → Nat
  | .hbm => 165
  | .vmem => 0
  | .smem => 0
  | _ => 0

abbrev hbmTy0_0 (i : Nat) : BufTy := match i % 128 with
  | 0 => ⟨S32x64x16384, .f32⟩
  | 1 => ⟨S_, .f32⟩
  | 2 => ⟨S32x64, .f32⟩
  | 3 => ⟨S32x64x1, .f32⟩
  | 4 => ⟨S_, .f32⟩
  | 5 => ⟨S32x64x1, .f32⟩
  | 6 => ⟨S32x64x1, .f32⟩
  | 7 => ⟨S32x64x16384, .f32⟩
  | 8 => ⟨S32x64x16384, .f32⟩
  | 9 => ⟨S32x16384x64, .f32⟩
  | 10 => ⟨S32x64x64, .f32⟩
  | 11 => ⟨S_, .f32⟩
  | 12 => ⟨S32x64x64, .f32⟩
  | 13 => ⟨S32x64x64, .f32⟩
  | 14 => ⟨S64x64, .i32⟩
  | 15 => ⟨S64x64, .i32⟩
  | 16 => ⟨S_, .i32⟩
  | 17 => ⟨S64x64, .i32⟩
  | 18 => ⟨S64x64, .i32⟩
  | 19 => ⟨S64x64, .i1⟩
  | 20 => ⟨S64x64, .f32⟩
  | 21 => ⟨S_, .f32⟩
  | 22 => ⟨S64x64, .f32⟩
  | 23 => ⟨S64x64, .f32⟩
  | 24 => ⟨S1x64x64, .f32⟩
  | 25 => ⟨S32x64x64, .f32⟩
  | 26 => ⟨S32x64x64, .f32⟩
  | 27 => ⟨S32x64x64, .f32⟩
  | 28 => ⟨S_, .f32⟩
  | 29 => ⟨S32x64, .f32⟩
  | 30 => ⟨S_, .f32⟩
  | 31 => ⟨S32, .f32⟩
  | 32 => ⟨S32x1x1, .f32⟩
  | 33 => ⟨S32x64x64, .f32⟩
  | 34 => ⟨S32x64x64, .f32⟩
  | 35 => ⟨S32x64x64, .f32⟩
  | 36 => ⟨S_, .f32⟩
  | 37 => ⟨S64x64, .f32⟩
  | 38 => ⟨S64x64, .f32⟩
  | 39 => ⟨S32x64x64, .f32⟩
  | 40 => ⟨S32x64x64, .f32⟩
  | 41 => ⟨S1x64x64, .f32⟩
  | 42 => ⟨S32x64x64, .f32⟩
  | 43 => ⟨S32x64x64, .f32⟩
  | 44 => ⟨S32x64x64, .f32⟩
  | 45 => ⟨S_, .f32⟩
  | 46 => ⟨S32x64x64, .f32⟩
  | 47 => ⟨S32x64x64, .f32⟩
  | 48 => ⟨S_, .f32⟩
  | 49 => ⟨S64x64, .f32⟩
  | 50 => ⟨S64x64, .f32⟩
  | 51 => ⟨S32x64x64, .f32⟩
  | 52 => ⟨S32x64x64, .f32⟩
  | 53 => ⟨S1x64x64, .f32⟩
  | 54 => ⟨S32x64x64, .f32⟩
  | 55 => ⟨S32x64x64, .f32⟩
  | 56 => ⟨S32x64x64, .f32⟩
  | 57 => ⟨S_, .f32⟩
  | 58 => ⟨S32x64x64, .f32⟩
  | 59 => ⟨S32x64x64, .f32⟩
  | 60 => ⟨S_, .f32⟩
  | 61 => ⟨S64x64, .f32⟩
  | 62 => ⟨S64x64, .f32⟩
  | 63 => ⟨S32x64x64, .f32⟩
  | 64 => ⟨S32x64x64, .f32⟩
  | 65 => ⟨S1x64x64, .f32⟩
  | 66 => ⟨S32x64x64, .f32⟩
  | 67 => ⟨S32x64x64, .f32⟩
  | 68 => ⟨S32x64x64, .f32⟩
  | 69 => ⟨S_, .f32⟩
  | 70 => ⟨S32x64x64, .f32⟩
  | 71 => ⟨S32x64x64, .f32⟩
  | 72 => ⟨S_, .f32⟩
  | 73 => ⟨S64x64, .f32⟩
  | 74 => ⟨S64x64, .f32⟩
  | 75 => ⟨S32x64x64, .f32⟩
  | 76 => ⟨S32x64x64, .f32⟩
  | 77 => ⟨S1x64x64, .f32⟩
  | 78 => ⟨S32x64x64, .f32⟩
  | 79 => ⟨S32x64x64, .f32⟩
  | 80 => ⟨S32x64x64, .f32⟩
  | 81 => ⟨S_, .f32⟩
  | 82 => ⟨S32x64x64, .f32⟩
  | 83 => ⟨S32x64x64, .f32⟩
  | 84 => ⟨S_, .f32⟩
  | 85 => ⟨S64x64, .f32⟩
  | 86 => ⟨S64x64, .f32⟩
  | 87 => ⟨S32x64x64, .f32⟩
  | 88 => ⟨S32x64x64, .f32⟩
  | 89 => ⟨S1x64x64, .f32⟩
  | 90 => ⟨S32x64x64, .f32⟩
  | 91 => ⟨S32x64x64, .f32⟩
  | 92 => ⟨S32x64x64, .f32⟩
  | 93 => ⟨S_, .f32⟩
  | 94 => ⟨S32x64x64, .f32⟩
  | 95 => ⟨S32x64x64, .f32⟩
  | 96 => ⟨S_, .f32⟩
  | 97 => ⟨S64x64, .f32⟩
  | 98 => ⟨S64x64, .f32⟩
  | 99 => ⟨S32x64x64, .f32⟩
  | 100 => ⟨S32x64x64, .f32⟩
  | 101 => ⟨S1x64x64, .f32⟩
  | 102 => ⟨S32x64x64, .f32⟩
  | 103 => ⟨S32x64x64, .f32⟩
  | 104 => ⟨S32x64x64, .f32⟩
  | 105 => ⟨S_, .f32⟩
  | 106 => ⟨S32x64x64, .f32⟩
  | 107 => ⟨S32x64x64, .f32⟩
  | 108 => ⟨S1x64x64, .f32⟩
  | 109 => ⟨S32x64x64, .f32⟩
  | 110 => ⟨S32x64x64, .f32⟩
  | 111 => ⟨S32x64x64, .f32⟩
  | 112 => ⟨S_, .i32⟩
  | 113 => ⟨S_, .i32⟩
  | 114 => ⟨S32x64x64, .f32⟩
  | 115 => ⟨S_, .i32⟩
  | 116 => ⟨S_, .i32⟩
  | 117 => ⟨S32x64x64, .f32⟩
  | 118 => ⟨S_, .i32⟩
  | 119 => ⟨S_, .i1⟩
  | 120 => ⟨S_, .i32⟩
  | 121 => ⟨S_, .i32⟩
  | 122 => ⟨S32x64x64, .f32⟩
  | 123 => ⟨S_, .i32⟩
  | 124 => ⟨S_, .i32⟩
  | 125 => ⟨S64x64, .i32⟩
  | 126 => ⟨S64x64, .i32⟩
  | 127 => ⟨S_, .i32⟩
  | _ => ⟨S32x64x16384, .f32⟩

abbrev hbmTy0_1 (i : Nat) : BufTy := match i % 128 with
  | 0 => ⟨S64x64, .i32⟩
  | 1 => ⟨S64x64, .i32⟩
  | 2 => ⟨S64x64, .i1⟩
  | 3 => ⟨S_, .f32⟩
  | 4 => ⟨S32x64x64, .f32⟩
  | 5 => ⟨S32x64x64, .i1⟩
  | 6 => ⟨S32x64x64, .f32⟩
  | 7 => ⟨S_, .f32⟩
  | 8 => ⟨S32, .f32⟩
  | 9 => ⟨S32x1x1, .f32⟩
  | 10 => ⟨S_, .f32⟩
  | 11 => ⟨S32x1x1, .f32⟩
  | 12 => ⟨S32x1x1, .f32⟩
  | 13 => ⟨S32x64x64, .f32⟩
  | 14 => ⟨S32x64x64, .f32⟩
  | 15 => ⟨S32x64x64, .f32⟩
  | 16 => ⟨S64x64, .i32⟩
  | 17 => ⟨S64x64, .i32⟩
  | 18 => ⟨S_, .i32⟩
  | 19 => ⟨S64x64, .i32⟩
  | 20 => ⟨S64x64, .i32⟩
  | 21 => ⟨S64x64, .i1⟩
  | 22 => ⟨S_, .f32⟩
  | 23 => ⟨S32x64x64, .f32⟩
  | 24 => ⟨S32x64x64, .i1⟩
  | 25 => ⟨S32x64x64, .f32⟩
  | 26 => ⟨S_, .f32⟩
  | 27 => ⟨S32, .f32⟩
  | 28 => ⟨S32x1x1, .f32⟩
  | 29 => ⟨S32x1x1, .f32⟩
  | 30 => ⟨S32x64x64, .f32⟩
  | 31 => ⟨S32x64x64, .f32⟩
  | 32 => ⟨S32x1x1, .f32⟩
  | 33 => ⟨S32x64x64, .f32⟩
  | 34 => ⟨S32x64x64, .f32⟩
  | 35 => ⟨S32x64x64, .f32⟩
  | 36 => ⟨S32x64x16384, .f32⟩
  | _ => ⟨S32x64x16384, .f32⟩

abbrev hbmTy (i : Nat) : BufTy := match i / 128 with
  | 0 => hbmTy0_0 i
  | 1 => hbmTy0_1 i
  | _ => ⟨S32x64x16384, .f32⟩

abbrev bufTy : (tb : Table) → Fin (tcTables nBuf tb) → BufTy
  | .hbm, ⟨i, _⟩ => hbmTy i
  | _, _ => ⟨S32x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_v47 : Ref sig .tc := ⟨.hbm, 59, rfl⟩
abbrev main_cst_9 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_10 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_12 : Ref sig .tc := ⟨.hbm, 81, rfl⟩
abbrev main_v66 : Ref sig .tc := ⟨.hbm, 82, rfl⟩
abbrev main_v67 : Ref sig .tc := ⟨.hbm, 83, rfl⟩
abbrev main_cst_13 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_14 : Ref sig .tc := ⟨.hbm, 93, rfl⟩
abbrev main_v76 : Ref sig .tc := ⟨.hbm, 94, rfl⟩
abbrev main_v77 : Ref sig .tc := ⟨.hbm, 95, rfl⟩
abbrev main_cst_15 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_16 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c_17 : Ref sig .tc := ⟨.hbm, 112, rfl⟩
abbrev main_c_18 : Ref sig .tc := ⟨.hbm, 113, rfl⟩
abbrev main_v92_0 : Ref sig .tc := ⟨.hbm, 114, rfl⟩
abbrev main_v92_1 : Ref sig .tc := ⟨.hbm, 115, rfl⟩
abbrev main_v92_2 : Ref sig .tc := ⟨.hbm, 116, rfl⟩
abbrev main_v92_3 : Ref sig .tc := ⟨.hbm, 117, rfl⟩
abbrev main_while0c_c_23 : Ref sig .tc := ⟨.hbm, 118, rfl⟩
abbrev main_while0c_v110 : Ref sig .tc := ⟨.hbm, 119, rfl⟩
abbrev main_while0b_c_23 : Ref sig .tc := ⟨.hbm, 120, rfl⟩
abbrev main_while0b_v110 : Ref sig .tc := ⟨.hbm, 121, rfl⟩
abbrev main_while0b_v111 : Ref sig .tc := ⟨.hbm, 122, rfl⟩
abbrev main_while0b_c_24 : Ref sig .tc := ⟨.hbm, 123, rfl⟩
abbrev main_while0b_v112 : Ref sig .tc := ⟨.hbm, 124, rfl⟩
abbrev main_call0_v0 : Ref sig .tc := ⟨.hbm, 125, rfl⟩
abbrev main_call0_v1 : Ref sig .tc := ⟨.hbm, 126, rfl⟩
abbrev main_call0_c : Ref sig .tc := ⟨.hbm, 127, rfl⟩
abbrev main_call0_v2 : Ref sig .tc := ⟨.hbm, 128, rfl⟩
abbrev main_call0_v3 : Ref sig .tc := ⟨.hbm, 129, rfl⟩
abbrev main_call0_v4 : Ref sig .tc := ⟨.hbm, 130, rfl⟩
abbrev main_call0_cst : Ref sig .tc := ⟨.hbm, 131, rfl⟩
abbrev main_call0_v5 : Ref sig .tc := ⟨.hbm, 132, rfl⟩
abbrev main_call0_call0_v0 : Ref sig .tc := ⟨.hbm, 133, rfl⟩
abbrev main_call0_v6 : Ref sig .tc := ⟨.hbm, 134, rfl⟩
abbrev main_call0_cst_0 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call1_v0 : Ref sig .tc := ⟨.hbm, 144, rfl⟩
abbrev main_call1_v1 : Ref sig .tc := ⟨.hbm, 145, rfl⟩
abbrev main_call1_c : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_cst : Ref sig .tc := ⟨.hbm, 150, rfl⟩
abbrev main_call1_v5 : Ref sig .tc := ⟨.hbm, 151, rfl⟩
abbrev main_call1_call0_v0 : Ref sig .tc := ⟨.hbm, 152, rfl⟩
abbrev main_call1_v6 : Ref sig .tc := ⟨.hbm, 153, rfl⟩
abbrev main_call1_cst_0 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩

abbrev nD : Nat := 1
abbrev τ : Topo := Topo.v7x

variable {F : FTy → Type} [FloatOps F]

abbrev main_while0_count : Scf.Loop 32 := ⟨0#32, 262144#32, 1#32⟩
-- ==== Proof.KernelArray.lean ====
/- What one grid point of the kernel writes, member by member, and the array it leaves. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Whitening

open Cert.KernelIdeal Cert.KernelIdeal.Gen Idealize.ShloMosaic Idealize.ShloMosaic.TcCoe Idealize.SL.Sem

/-- The covariance of a member, from its centred data. -/
def covOf (xc : Vec Ideal S1x64x16384 .f32) : FVec Ideal S64x64 .f32 := k0_pay10 k0_pay2 (k0_pay9 xc)

/-- The norm of a member's covariance. -/
def normOf (xc : Vec Ideal S1x64x16384 .f32) : FVec Ideal S1x1 .f32 := k0_pay11 k0_pay2 (k0_pay9 xc)

/-- The reciprocal of that norm. -/
def recipOf (xc : Vec Ideal S1x64x16384 .f32) : FVec Ideal S1x1 .f32 := k0_pay12 k0_pay2 (k0_pay9 xc)

/-- The inverse square root that the coupled iteration gives, from the covariance, its norm and the norm's reciprocal. -/
def rootOf (cov : FVec Ideal S64x64 .f32) (g rg : FVec Ideal S1x1 .f32) : FVec Ideal S64x64 .f32 :=
  k0_pay53 g
    (k0_pay49 k0_pay3 (k0_pay30 k0_pay3 cov rg) (k0_pay32 k0_pay3 cov rg) (k0_pay34 k0_pay3 cov rg))
    (k0_pay51 k0_pay3 (k0_pay30 k0_pay3 cov rg) (k0_pay32 k0_pay3 cov rg) (k0_pay34 k0_pay3 cov rg))

/-- The power that the squarings give, from the same three. -/
def powerOf (cov : FVec Ideal S64x64 .f32) (g rg : FVec Ideal S1x1 .f32) : FVec Ideal S64x64 .f32 :=
  k0_pay61 (k0_pay60 (k0_pay57 (k0_pay55 k0_pay2 cov g rg)))

/-- A member's result from its centred data. -/
def whitened (xc : Vec Ideal S1x64x16384 .f32) : FVec Ideal S1x64x16384 .f32 :=
  k0_pay63 k0_pay2 (covOf xc) (rootOf (covOf xc) (normOf xc) (recipOf xc)) (powerOf (covOf xc) (normOf xc) (recipOf xc))
    (k0_pay7 xc) (k0_pay8 xc)

/-- A member's result: the whitened data of what the kernel loads for it. -/
def member (x : Vec Ideal S1x64x16384 .f32) : FVec Ideal S1x64x16384 .f32 := whitened (k0_pay4 x)

/-- Member `b` of the array, under a leading axis of one. -/
def slab (X : S32x64x16384.Idx → EReal) (b : Fin 32) : S1x64x16384.Idx → EReal := fun y => X (ix3 b (y 1) (y 2))

variable (m : (ℓ : Loc nD τ sig) → Buf (Elt Ideal) ℓ)

theorem index0 : ∀ t : Fin grid0.N, win0_0.index t = ![t.val, 0, 0] ∧ win0_1.index t = ![t.val, 0, 0] := by decide +kernel

/-- A member's result, computed from one of the two slabs that a grid point loads, is the array's at the block's place. -/
theorem member_at (c : Dev nD) (t : Fin cfg0.N) (y : S2x64x16384.Idx) (x : S1x64x16384.Idx)
    (v : S1x64x16384.Idx → EReal) (g : Fin 2) (h0 : (y 0 : ℕ) = g) (h1 : (y 1 : ℕ) = x 1) (h2 : (y 2 : ℕ) = x 2)
    (hv : v = fun z => iblk m c 0 t (ix3 g (z 1) (z 2))) :
    member v x = member (slab (m ((c : Thread nD τ).loc main_arg0)) (((View.whole main_v0).slice (win0_1.rect t)).emb y 0))
      (ix3 0 (((View.whole main_v0).slice (win0_1.rect t)).emb y 1) (((View.whole main_v0).slice (win0_1.rect t)).emb y 2)) := by
  subst hv
  congr 1
  · congr 1
    funext z
    unfold slab
    blk_ext [iblk, V, index0 t]
  · blk_ext [index0 t]

/-- The array the kernel leaves: member by member, the member's result. -/
theorem kernel_array (c : Dev nD) : (dats m 0 c).arrAt 1 cfg0.N
    = fun i : S32x64x16384.Idx => member (slab (m ((c : Thread nD τ).loc main_arg0)) (i 0)) (ix3 0 (i 1) (i 2)) := by
  refine (dats m 0 c).arrAt_eq_of_covers 1 _ (by decide +kernel) fun t hf y => ?_
  blk_simp
  rw [after0_1]
  unfold outsAt0
  frame_open
  simp (disch := decide) only [↓ View.readCov_skip, ↓ View.readCov_cons_toLoadRect, ↓ View.readCov_fill]
  frame_out
  canon_tiles x h
  · exact member_at m c t y x _ 1 (h0.trans (show 1 + (x 0 : ℕ) = 1 by omega)) h1 h2 (by funext z; pointwise)
  · exact member_at m c t y x _ 0 (h0.trans (show (x 0 : ℕ) = 0 by omega)) h1 h2 (by funext z; pointwise)

end Cert.Whitening

end
-- ==== Proof.RealMath.lean ====
/- The linear algebra over the reals that the equation of the two programs rests on: the Newton iteration in
   its coupled and its uncoupled form, powers up to a positive factor, and the projector on the smallest
   eigendirection that a high power gives. -/
module

public import Mathlib.LinearAlgebra.Matrix.Trace
public import Mathlib.LinearAlgebra.Matrix.Symmetric
public import Mathlib.Data.Real.Basic
public import Mathlib.Algebra.BigOperators.Ring.Finset
public import Mathlib.Tactic.NoncommRing
public import Mathlib.Tactic.Positivity
public import Mathlib.Tactic.Linarith
public import Mathlib.Tactic.FieldSimp

@[expose] public section

noncomputable section

namespace Cert.Whitening

open Matrix

/-- A square matrix of the size of one covariance. -/
abbrev Mat : Type := Matrix (Fin 64) (Fin 64) ℝ

/-- Half the number of factors in the power. -/
def half : ℕ := 131072

/-- The Newton iterates towards the inverse square root of `A`, from the identity. -/
def newton (A : Mat) : ℕ → Mat
  | 0 => 1
  | k + 1 => (1 / 2 : ℝ) • (newton A k * ((3 : ℝ) • 1 - A * newton A k * newton A k))

/-- The factor that takes one iterate to the next in the coupled form. -/
def factor (A : Mat) (k : ℕ) : Mat :=
  (3 / 2 : ℝ) • 1 - (1 / 2 : ℝ) • (newton A k * (A * newton A k))

theorem newton_commute (A : Mat) : ∀ k, A * newton A k = newton A k * A
  | 0 => by simp [newton]
  | k + 1 => by
    have h := newton_commute A k
    have h3 : A * (newton A k * (A * newton A k * newton A k)) = newton A k * (A * newton A k * newton A k) * A := by
      calc A * (newton A k * (A * newton A k * newton A k))
          = (A * newton A k) * (A * newton A k * newton A k) := by noncomm_ring
        _ = (newton A k * A) * (A * newton A k * newton A k) := by rw [h]
        _ = newton A k * A * (A * newton A k) * newton A k := by noncomm_ring
        _ = newton A k * A * (newton A k * A) * newton A k := by rw [h]
        _ = newton A k * A * newton A k * (A * newton A k) := by noncomm_ring
        _ = newton A k * A * newton A k * (newton A k * A) := by rw [h]
        _ = newton A k * (A * newton A k * newton A k) * A := by noncomm_ring
    rw [newton, Matrix.mul_smul, Matrix.smul_mul]
    congr 1
    rw [Matrix.mul_sub, Matrix.mul_sub, Matrix.sub_mul, h3, Matrix.mul_smul, Matrix.mul_smul, Matrix.smul_mul, Matrix.mul_one, h]

theorem factor_mul (A : Mat) (k : ℕ) : factor A k * newton A k = newton A (k + 1) := by
  rw [factor, newton, Matrix.sub_mul, Matrix.mul_sub, smul_sub, Matrix.smul_mul, Matrix.smul_mul, Matrix.one_mul,
    Matrix.mul_smul, Matrix.mul_one, smul_smul]
  congr 1
  · norm_num
  · simp only [Matrix.mul_assoc]

theorem mul_factor (A : Mat) (k : ℕ) : A * newton A k * factor A k = A * newton A (k + 1) := by
  have h := newton_commute A k
  rw [Matrix.mul_assoc, ← factor_mul]
  congr 1
  rw [factor, Matrix.mul_sub, Matrix.sub_mul, Matrix.mul_smul, Matrix.mul_smul, Matrix.smul_mul, Matrix.smul_mul,
    Matrix.mul_one, Matrix.one_mul]
  congr 2
  calc newton A k * (newton A k * (A * newton A k)) = newton A k * (newton A k * A) * newton A k := by noncomm_ring
    _ = newton A k * (A * newton A k) * newton A k := by rw [h]

/-- The power of a symmetric matrix is symmetric. -/
theorem pow_symm {Q : Mat} (h : Qᵀ = Q) (n : ℕ) : (Q ^ n)ᵀ = Q ^ n := by rw [Matrix.transpose_pow, h]

theorem trace_self_mul_transpose {n : ℕ} (R : Matrix (Fin 64) (Fin n) ℝ) : trace (R * Rᵀ) = ∑ i, ∑ j, R i j ^ 2 := by
  simp [trace, Matrix.mul_apply, sq]

theorem trace_self_mul_transpose_nonneg {n : ℕ} (R : Matrix (Fin 64) (Fin n) ℝ) : 0 ≤ trace (R * Rᵀ) := by
  rw [trace_self_mul_transpose]; positivity

theorem eq_zero_of_trace {n : ℕ} {R : Matrix (Fin 64) (Fin n) ℝ} (h : trace (R * Rᵀ) = 0) : R = 0 := by
  rw [trace_self_mul_transpose, Finset.sum_eq_zero_iff_of_nonneg fun i _ => by positivity] at h
  ext i j
  have h' := (Finset.sum_eq_zero_iff_of_nonneg fun j _ => by positivity).mp (h i (Finset.mem_univ i)) j (Finset.mem_univ j)
  simpa using h'

/-- The projector: the power of `Q`, divided by its trace (by zero's inverse, zero, if the trace is zero). -/
def proj (Q : Mat) (n : ℕ) : Mat := (trace (Q ^ n))⁻¹ • Q ^ n

theorem proj_symm {Q : Mat} (h : Qᵀ = Q) (n : ℕ) : (proj Q n)ᵀ = proj Q n := by
  rw [proj, Matrix.transpose_smul, pow_symm h]

/-- An even power of a symmetric matrix is zero where its trace is. -/
theorem pow_eq_zero_of_trace {Q : Mat} (h : Qᵀ = Q) {n : ℕ} (ht : trace (Q ^ (n + n)) = 0) : Q ^ (n + n) = 0 := by
  rw [pow_add]
  rw [pow_add] at ht
  nth_rewrite 2 [← pow_symm h n] at ht
  rw [eq_zero_of_trace ht, Matrix.zero_mul]

theorem pow_trace_nonneg {Q : Mat} (h : Qᵀ = Q) (n : ℕ) : 0 ≤ trace (Q ^ (n + n)) := by
  rw [pow_add]
  nth_rewrite 2 [← pow_symm h n]
  exact trace_self_mul_transpose_nonneg _

/-- The variance along the projector is positive, or the projector is zero. -/
theorem variance_pos {M : ℕ} (X : Matrix (Fin 64) (Fin M) ℝ) {s e : ℝ} (hs : 0 ≤ s) (he : 0 < e) {Q : Mat} (h : Qᵀ = Q) (n : ℕ) :
    0 < trace ((s • (X * Xᵀ) + e • (1 : Mat)) * proj Q (n + n)) ∨ proj Q (n + n) = 0 := by
  by_cases ht : trace (Q ^ (n + n)) = 0
  · right; rw [proj, pow_eq_zero_of_trace h ht, smul_zero]
  · left
    have hp : 0 < trace (Q ^ (n + n)) := lt_of_le_of_ne (pow_trace_nonneg h n) (Ne.symm ht)
    have h1 : trace (X * Xᵀ * Q ^ (n + n)) = trace ((Q ^ n * X) * (Q ^ n * X)ᵀ) := by
      rw [pow_add, Matrix.transpose_mul, pow_symm h, ← Matrix.mul_assoc, Matrix.trace_mul_comm]
      simp only [Matrix.mul_assoc]
    have h2 := trace_self_mul_transpose_nonneg (Q ^ n * X)
    rw [proj, Matrix.mul_smul, trace_smul, Matrix.add_mul, trace_add, Matrix.smul_mul, Matrix.smul_mul, trace_smul, trace_smul,
      Matrix.one_mul, h1, smul_eq_mul, smul_eq_mul, smul_eq_mul]
    positivity

/-- A positive factor on the power does not change the projector. -/
theorem proj_of_scaled {Q R : Mat} {n : ℕ} {c : ℝ} (hc : 0 < c) (hR : R = c • Q ^ n) : (trace R)⁻¹ • R = proj Q n := by
  rw [hR, proj, trace_smul, smul_smul, smul_eq_mul, mul_inv]
  congr 1
  rw [mul_comm, ← mul_assoc, mul_inv_cancel₀ hc.ne', one_mul]

end Cert.Whitening

end
-- ==== Proof.Entries.lean ====
/- Arithmetic of the extended reals where the entries are real: products and sums of matrices, maxima, the
   quotients by a norm and by a trace, and the constants of the two programs. -/
module

public import proofs.«01_k».proof.Proof.RealMath
public import Idealize.ShloMosaic.Lib.IdealHost
public import Idealize.ShloMosaic.Lib.Pointwise

@[expose] public section

noncomputable section

namespace Cert.Whitening

open Idealize.ShloMosaic Matrix

theorem bits_inf : Ideal.ofBits FTy.f32 0xFF800000#32 = ⊥ := by simp [Ideal.ofBits, Ideal.ieee]
theorem bits_half : Ideal.ofBits FTy.f32 0x3F000000#32 = ((1 / 2 : ℝ) : EReal) := by
  simp [Ideal.ofBits, Ideal.ieee]; rw [← EReal.coe_mul]; norm_num
theorem bits_three_halves : Ideal.ofBits FTy.f32 0x3FC00000#32 = ((3 / 2 : ℝ) : EReal) := by
  simp [Ideal.ofBits, Ideal.ieee]; rw [← EReal.coe_mul]; norm_num
theorem bits_two : Ideal.ofBits FTy.f32 0x40000000#32 = ((2 : ℝ) : EReal) := by
  simp [Ideal.ofBits, Ideal.ieee]; rw [← EReal.coe_mul]; norm_num
theorem bits_three : Ideal.ofBits FTy.f32 0x40400000#32 = ((3 : ℝ) : EReal) := by
  simp [Ideal.ofBits, Ideal.ieee]; rw [← EReal.coe_mul]; norm_num
theorem bits_count : Ideal.ofBits FTy.f32 0x46800000#32 = ((16384 : ℝ) : EReal) := by
  simp [Ideal.ofBits, Ideal.ieee]; rw [← EReal.coe_mul]; norm_num
theorem bits_share : Ideal.ofBits FTy.f32 0x38800000#32 = ((1 / 16384 : ℝ) : EReal) := by
  simp [Ideal.ofBits, Ideal.ieee]; rw [← EReal.coe_mul]; norm_num
theorem bits_stab : ∃ e : ℝ, 0 < e ∧ Ideal.ofBits FTy.f32 0x3727C5AC#32 = (e : EReal) := by
  refine ⟨_, ?_, by simp [Ideal.ofBits, Ideal.ieee]; rfl⟩
  norm_num

/-- The quotient by the count is the product with the share. -/
theorem div_count (x : EReal) : Ideal.div x (Ideal.ofBits FTy.f32 0x46800000#32) = x * Ideal.ofBits FTy.f32 0x38800000#32 := by
  rw [bits_count, bits_share, Ideal.div_coe (by norm_num)]

theorem absf_coe (a : ℝ) : FloatOps.absf (F := Ideal) (φ := FTy.f32) (a : EReal) = ((|a| : ℝ) : EReal) := by
  rw [Ideal.absf_def, ← EReal.coe_neg, abs_eq_max_neg, EReal.coe_strictMono.monotone.map_max]

theorem absf_nonneg (a : EReal) : (0 : EReal) ≤ FloatOps.absf (F := Ideal) (φ := FTy.f32) a := by
  rw [Ideal.absf_def]
  rcases le_total 0 a with h | h
  · exact le_max_of_le_left h
  · exact le_max_of_le_right (EReal.neg_nonneg.mpr h)

/-- A sum of real entries. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An entry of a product of real matrices. -/
theorem sum_coe_mul {l n k : ℕ} (A : Matrix (Fin l) (Fin k) ℝ) (B : Matrix (Fin k) (Fin n) ℝ) (i : Fin l) (j : Fin n) :
    ∑ x, ((A i x : ℝ) : EReal) * ((B x j : ℝ) : EReal) = (((A * B) i j : ℝ) : EReal) := by
  simp only [← EReal.coe_mul, sum_coe]
  rfl

/-- The same, for entries that are known to be real. -/
theorem sum_entries {f g : Fin 64 → Fin 64 → EReal} {A B : Matrix (Fin 64) (Fin 64) ℝ} (hf : ∀ i j, f i j = ((A i j : ℝ) : EReal))
    (hg : ∀ i j, g i j = ((B i j : ℝ) : EReal)) (i j : Fin 64) : ∑ x, f i x * g x j = (((A * B) i j : ℝ) : EReal) := by
  simp only [hf, hg, sum_coe_mul]

/-- The sum of a diagonal, taken over the whole square with the other entries left out. -/
theorem sum_diagonal {f g : Fin 64 → Fin 64 → EReal} (h : ∀ i j, f i j = g i j) : (∑ x, ∑ y, if x = y then f x y else 0) = ∑ x, g x x := by
  simp only [Finset.sum_ite_eq, Finset.mem_univ, if_true, h]

/-- The largest of finitely many real numbers, as the fold from minus infinity gives it. -/
theorem fold_max_coe {n : ℕ} [NeZero n] (f : Fin n → ℝ) :
    ∃ μ : ℝ, Finset.univ.fold max (⊥ : EReal) (fun i => ((f i : ℝ) : EReal)) = (μ : EReal) ∧ (∀ i, f i ≤ μ) ∧ ∃ i, f i = μ := by
  obtain ⟨i, -, hi⟩ := Finset.exists_max_image (Finset.univ : Finset (Fin n)) f ⟨0, Finset.mem_univ _⟩
  refine ⟨f i, ?_, fun j => hi j (Finset.mem_univ j), i, rfl⟩
  change Finset.univ.sup (fun i => ((f i : ℝ) : EReal)) = _
  apply le_antisymm
  · exact Finset.sup_le fun j _ => EReal.coe_le_coe_iff.mpr (hi j (Finset.mem_univ j))
  · exact Finset.le_sup (f := fun i => ((f i : ℝ) : EReal)) (Finset.mem_univ i)

/-- A fold of maxima is infinite where one of its terms is. -/
theorem fold_max_top {n : ℕ} (f : Fin n → EReal) (i : Fin n) (h : f i = ⊤) : Finset.univ.fold max (⊥ : EReal) f = ⊤ := by
  change Finset.univ.sup f = ⊤
  exact top_le_iff.mp (h ▸ Finset.le_sup (f := f) (Finset.mem_univ i))

/-- A sum of terms that are not negative is infinite where one of them is. -/
theorem sum_top {n : ℕ} (f : Fin n → EReal) (h0 : ∀ i, 0 ≤ f i) (i : Fin n) (h : f i = ⊤) : ∑ i, f i = ⊤ :=
  top_le_iff.mp (h ▸ Finset.single_le_sum (f := f) (fun j _ => h0 j) (Finset.mem_univ i))

theorem mul_self_nonneg' (a : EReal) : 0 ≤ a * a := by
  induction a with
  | bot => simp
  | top => simp
  | coe a => rw [← EReal.coe_mul]; exact EReal.coe_nonneg.mpr (mul_self_nonneg a)

/-- The comparison of two positions, as one bit. -/
theorem same_bit : ∀ i j : Fin 64, IntOp.cmpi CmpIPredicate.eq (IntOp.addi (BitVec.ofNat 32 i) 0#32) (BitVec.ofNat 32 j)
    = if i = j then 1#1 else 0#1 := by decide +kernel

/-- The identity's entries, from the comparison read as a signed word. -/
theorem delta_signed (i j : Fin 64) : FloatOps.sitofp (F := Ideal) FTy.f32
      (BitVec.setWidth 32 (IntOp.cmpi CmpIPredicate.eq (IntOp.addi (BitVec.ofNat 32 i) 0#32) (BitVec.ofNat 32 j)))
    = (((1 : Mat) i j : ℝ) : EReal) := by
  rw [same_bit, Matrix.one_apply]
  split
  · change (((1#32 : BitVec 32).toInt : ℝ) : EReal) = _
    simp
  · change (((0#32 : BitVec 32).toInt : ℝ) : EReal) = _
    simp

/-- The identity's entries, from the comparison read as an unsigned bit. -/
theorem delta_unsigned (i j : Fin 64) : FloatOps.uitofp (F := Ideal) FTy.f32
      (IntOp.cmpi CmpIPredicate.eq (IntOp.addi (BitVec.ofNat 32 i) 0#32) (BitVec.ofNat 32 j)) = (((1 : Mat) i j : ℝ) : EReal) := by
  rw [same_bit, Matrix.one_apply]
  split
  · change (((1#1 : BitVec 1).toNat : ℝ) : EReal) = _
    simp
  · change (((0#1 : BitVec 1).toNat : ℝ) : EReal) = _
    simp

/-- A diagonal's entry, chosen by the comparison. -/
theorem select_same (i j : Fin 64) (a : EReal) : Scalar.select (IntOp.cmpi CmpIPredicate.eq (IntOp.addi (BitVec.ofNat 32 i) 0#32) (BitVec.ofNat 32 j)) a 0
    = if i = j then a else 0 := by
  rw [same_bit, Scalar.select]
  split <;> simp

/-- The norm of a matrix of extended reals: the largest sum of the entries' sizes along one axis. -/
def normE (c : Fin 64 → Fin 64 → EReal) : EReal :=
  Finset.univ.fold max (⊥ : EReal) fun j => ∑ i, FloatOps.absf (F := Ideal) (φ := FTy.f32) (c i j)

/-- The norm of a real matrix with a positive diagonal is a positive real number. -/
theorem normE_coe (C : Mat) (h : 0 < C 0 0) : ∃ γ : ℝ, 0 < γ ∧ normE (fun i j => ((C i j : ℝ) : EReal)) = (γ : EReal) := by
  obtain ⟨γ, hγ, hle, -⟩ := fold_max_coe (fun j => ∑ i, |C i j|)
  refine ⟨γ, lt_of_lt_of_le ?_ (hle 0), ?_⟩
  · refine lt_of_lt_of_le (abs_pos.mpr h.ne') ?_
    exact Finset.single_le_sum (f := fun i => |C i 0|) (fun j _ => abs_nonneg _) (Finset.mem_univ 0)
  · rw [normE, ← hγ]
    simp only [absf_coe, sum_coe]

theorem normE_top (c : Fin 64 → Fin 64 → EReal) (i : Fin 64) (h : c i i = ⊤) : normE c = ⊤ := by
  refine fold_max_top _ i (sum_top _ (fun j => absf_nonneg _) i ?_)
  rw [h, Ideal.absf_def]; simp

/-- The quotient of the entries by a trace that is zero only where the matrix is. -/
theorem mul_recip_coe (a t : ℝ) (h : t = 0 → a = 0) : (a : EReal) * Ideal.div 1 (t : EReal) = ((t⁻¹ * a : ℝ) : EReal) := by
  by_cases ht : t = 0
  · rw [h ht]; simp
  · rw [Ideal.div_coe ht, one_mul, ← EReal.coe_mul, one_div, mul_comm]

/-- A real entry times the inverse square root of a variance that is positive, or where the entry is zero. -/
theorem rsqrt_mul_coe (l a : ℝ) (h : 0 < l ∨ a = 0) : Ideal.rsqrt (l : EReal) * (a : EReal) = (((√l)⁻¹ * a : ℝ) : EReal) := by
  rcases h with h | h
  · rw [Ideal.rsqrt_coe]
    rw [if_neg (not_lt.mpr h.le), if_neg h.ne', ← EReal.coe_mul]
  · rw [h]; simp

end Cert.Whitening

end
-- ==== Proof.KernelRoot.lean ====
/- What the kernel's coupled iteration and its squarings compute, where the scaled covariance is real. -/
module

public import proofs.«01_k».proof.Proof.KernelArray
public import proofs.«01_k».proof.Proof.Entries

@[expose] public section

set_option maxRecDepth 16384

noncomputable section

namespace Cert.Whitening

open Cert.KernelIdeal Cert.KernelIdeal.Gen Idealize.ShloMosaic Matrix

/-- The entries of `v` are those of the real matrix `A`. -/
def Is (v : FVec Ideal S64x64 .f32) (A : Mat) : Prop := ∀ i j, v (ix2 i j) = ((A i j : ℝ) : EReal)

theorem eye_is : Is k0_pay2 1 := by
  intro i j
  pointwise [k0_pay2]
  exact delta_signed i j

theorem eye_scaled_is : Is k0_pay3 ((3 / 2 : ℝ) • 1) := by
  intro i j
  pointwise [k0_pay3]
  rw [eye_is, bits_three_halves, ← EReal.coe_mul]
  rfl

/-- Three halves of the identity less half a real matrix. -/
theorem less_half (A : Mat) (i j : Fin 64) (p : EReal) (hp : p = ((A i j : ℝ) : EReal)) :
    k0_pay3 (ix2 i j) - Ideal.ofBits FTy.f32 0x3F000000#32 * p = ((((3 / 2 : ℝ) • 1 - (1 / 2 : ℝ) • A : Mat) i j : ℝ) : EReal) := by
  rw [eye_scaled_is, bits_half, hp, ← EReal.coe_mul, ← EReal.coe_sub]
  rfl

/-- A product of two vectors whose entries are real. -/
theorem prod_entry {v w : FVec Ideal S64x64 .f32} {A B : Mat} (hv : Is v A) (hw : Is w B) (i j : Fin 64) :
    ∑ k, v (ix2 i k) * w (ix2 k j) = (((A * B) i j : ℝ) : EReal) := by
  simp only [hv _ _, hw _ _, sum_coe_mul]

section Root

variable {cov : FVec Ideal S64x64 .f32} {rg : FVec Ideal S1x1 .f32} {A : Mat} (h : Is (k0_pay22 cov rg) A)

include h

theorem iterate1 : Is (k0_pay24 k0_pay3 cov rg) (newton A 1) := by
  intro i j
  pointwise [k0_pay24]
  rw [less_half A i j _ (h i j)]
  congr 2
  simp only [newton, Matrix.mul_one, Matrix.one_mul, smul_sub, smul_smul]
  norm_num

theorem scaled1 : Is (k0_pay26 k0_pay3 cov rg) (A * newton A 1) := by
  intro i j
  pointwise [k0_pay26]
  exact prod_entry h (iterate1 h) i j

theorem factor1 : Is (k0_pay28 k0_pay3 cov rg) (factor A 1) := by
  intro i j
  pointwise [k0_pay28]
  exact less_half _ i j _ (prod_entry (iterate1 h) (scaled1 h) i j)

theorem scaled2 : Is (k0_pay30 k0_pay3 cov rg) (A * newton A 2) := by
  intro i j
  pointwise [k0_pay30]
  rw [← mul_factor]
  exact prod_entry (scaled1 h) (factor1 h) i j

theorem iterate2 : Is (k0_pay32 k0_pay3 cov rg) (newton A 2) := by
  intro i j
  pointwise [k0_pay32]
  rw [← factor_mul]
  exact prod_entry (factor1 h) (iterate1 h) i j

theorem factor2 : Is (k0_pay34 k0_pay3 cov rg) (factor A 2) := by
  intro i j
  pointwise [k0_pay34]
  exact less_half _ i j _ (prod_entry (iterate2 h) (scaled2 h) i j)

end Root

section Later

variable {s z f : FVec Ideal S64x64 .f32} {A : Mat} (hs : Is s (A * newton A 2)) (hz : Is z (newton A 2)) (hf : Is f (factor A 2))

include hs hf in
theorem scaled3 : Is (k0_pay37 s f) (A * newton A 3) := by
  intro i j
  pointwise [k0_pay37]
  rw [← mul_factor]
  exact prod_entry hs hf i j

include hz hf in
theorem iterate3 : Is (k0_pay39 z f) (newton A 3) := by
  intro i j
  pointwise [k0_pay39]
  rw [← factor_mul]
  exact prod_entry hf hz i j

include hs hz hf

theorem factor3 : Is (k0_pay41 k0_pay3 s z f) (factor A 3) := by
  intro i j
  pointwise [k0_pay41]
  exact less_half _ i j _ (prod_entry (iterate3 hz hf) (scaled3 hs hf) i j)

theorem scaled4 : Is (k0_pay43 k0_pay3 s z f) (A * newton A 4) := by
  intro i j
  pointwise [k0_pay43]
  rw [← mul_factor]
  exact prod_entry (scaled3 hs hf) (factor3 hs hz hf) i j

theorem iterate4 : Is (k0_pay45 k0_pay3 s z f) (newton A 4) := by
  intro i j
  pointwise [k0_pay45]
  rw [← factor_mul]
  exact prod_entry (factor3 hs hz hf) (iterate3 hz hf) i j

theorem factor4 : Is (k0_pay47 k0_pay3 s z f) (factor A 4) := by
  intro i j
  pointwise [k0_pay47]
  exact less_half _ i j _ (prod_entry (iterate4 hs hz hf) (scaled4 hs hz hf) i j)

theorem iterate5 : Is (k0_pay49 k0_pay3 s z f) (newton A 5) := by
  intro i j
  pointwise [k0_pay49]
  rw [← factor_mul]
  exact prod_entry (factor4 hs hz hf) (iterate4 hs hz hf) i j

theorem scaled5 (i j : Fin 64) : ∑ k, k0_pay43 k0_pay3 s z f (ix2 i k) * k0_pay47 k0_pay3 s z f (ix2 k j)
    = (((A * newton A 5) i j : ℝ) : EReal) := by
  rw [← mul_factor]
  exact prod_entry (scaled4 hs hz hf) (factor4 hs hz hf) i j

theorem factor5 : Is (k0_pay51 k0_pay3 s z f) (factor A 5) := by
  intro i j
  pointwise [k0_pay51]
  refine less_half (newton A 5 * (A * newton A 5)) i j _ ?_
  simp only [scaled5 hs hz hf, iterate5 hs hz hf _ _, sum_coe_mul]

end Later

/-- The coupled iteration's result: the sixth Newton iterate by the norm's inverse square root. -/
theorem root_is {cov : FVec Ideal S64x64 .f32} {g rg : FVec Ideal S1x1 .f32} {A : Mat} {ρ : ℝ} (h : Is (k0_pay22 cov rg) A)
    (hg : Ideal.rsqrt (g (ix2 0 0)) = (ρ : EReal)) : Is (rootOf cov g rg) (ρ • newton A 6) := by
  intro i j
  unfold rootOf
  pointwise [k0_pay53]
  rw [prod_entry (factor5 (scaled2 h) (iterate2 h) (factor2 h)) (iterate5 (scaled2 h) (iterate2 h) (factor2 h)), factor_mul, hg,
    ← EReal.coe_mul, mul_comm]
  rfl

/-- A vector divided by the largest size of its entries. -/
def unit (v : FVec Ideal S64x64 .f32) : FVec Ideal S64x64 .f32 :=
  mulf v (broadcastTo S64x64 (divf (broadcast S1x1 (Scalar.ofBits .f32 0x3F800000#32))
    (shapeCast S1x1 (multiReduction .maximumf [0] S1 (shapeCast S64x1
      (multiReduction .maximumf [1] S64 (absf v) 0xFF800000#32 reduces_S64x64_S64_2 (.inl rfl) rfl) shapeCasts_S64_S64x1)
      0xFF800000#32 reduces_S64x1_S1 (.inl rfl) rfl) shapeCasts_S1_S1x1)) broadcasts_S1x1_S64x64)

/-- A vector times itself. -/
def square (v : FVec Ideal S64x64 .f32) : FVec Ideal S64x64 .f32 :=
  matmul dot_S64x64_S64x64_S64x64_1_0_0_1_n_n (some .fp32) v v (constant S64x64 .f32 0x00000000#32)

/-- One round: the division by the largest size, and three squarings. -/
def round (v : FVec Ideal S64x64 .f32) : FVec Ideal S64x64 .f32 := square (square (square (unit v)))

/-- The identity less the scaled covariance, as the kernel forms it. -/
def remainder (cov : FVec Ideal S64x64 .f32) (g rg : FVec Ideal S1x1 .f32) : FVec Ideal S64x64 .f32 :=
  mulf (subf (mulf (broadcastTo S64x64 g broadcasts_S1x1_S64x64) k0_pay2) cov) (broadcastTo S64x64 rg broadcasts_S1x1_S64x64)

theorem powerOf_eq (cov : FVec Ideal S64x64 .f32) (g rg : FVec Ideal S1x1 .f32) :
    powerOf cov g rg = round (round (round (round (round (round (remainder cov g rg)))))) := rfl

theorem unit_is {v : FVec Ideal S64x64 .f32} {A : Mat} (h : Is v A) : ∃ c : ℝ, 0 < c ∧ Is (unit v) (c • A) := by
  choose μ hμ hle hat using fun i => fold_max_coe (fun j => |A i j|)
  obtain ⟨ν, hν, hle', i, hi⟩ := fold_max_coe μ
  have hv : ∀ i j, unit v (ix2 i j) = ((A i j : ℝ) : EReal) * Ideal.div 1 (ν : EReal) := by
    intro i j
    unfold unit
    pointwise
    simp only [h _ _, absf_coe, bits_inf, hμ, hν, Ideal.ofBits_one_f32]
  have h0 : ∀ i j, |A i j| ≤ ν := fun i j => (hle i j).trans (hle' i)
  have hnn : 0 ≤ ν := (abs_nonneg _).trans (h0 0 0)
  rcases hnn.eq_or_lt with hz | hp
  · have hA : ∀ i j, A i j = 0 := fun i j => abs_eq_zero.mp (le_antisymm (hz ▸ h0 i j) (abs_nonneg _))
    refine ⟨1, one_pos, fun i j => ?_⟩
    rw [hv, hA]; simp [hA]
  · refine ⟨ν⁻¹, inv_pos.mpr hp, fun i j => ?_⟩
    rw [hv, mul_recip_coe _ _ fun h => absurd h hp.ne']
    rfl

theorem square_is {v : FVec Ideal S64x64 .f32} {A : Mat} (h : Is v A) : Is (square v) (A * A) := by
  intro i j
  unfold square
  pointwise
  exact prod_entry h h i j

/-- A round takes a power, up to a positive factor, to its eighth. -/
theorem round_is {v : FVec Ideal S64x64 .f32} {Q : Mat} {n : ℕ} (h : ∃ c : ℝ, 0 < c ∧ Is v (c • Q ^ n)) :
    ∃ c : ℝ, 0 < c ∧ Is (round v) (c • Q ^ (n * 8)) := by
  obtain ⟨c, hc, h⟩ := h
  obtain ⟨d, hd, h'⟩ := unit_is h
  refine ⟨(d * c) ^ 8, by positivity, ?_⟩
  have := square_is (square_is (square_is h'))
  have hA : (d • c • Q ^ n) * (d • c • Q ^ n) * ((d • c • Q ^ n) * (d • c • Q ^ n))
      * ((d • c • Q ^ n) * (d • c • Q ^ n) * ((d • c • Q ^ n) * (d • c • Q ^ n))) = (d * c) ^ 8 • Q ^ (n * 8) := by
    simp only [Matrix.smul_mul, Matrix.mul_smul, smul_smul, ← pow_add]
    congr 1
    · ring
    · congr 1; ring
  rwa [hA] at this

/-- The squarings' result is the power of the remainder, up to a positive factor. -/
theorem power_is {cov : FVec Ideal S64x64 .f32} {g rg : FVec Ideal S1x1 .f32} {Q : Mat} (h : Is (remainder cov g rg) Q) :
    ∃ c : ℝ, 0 < c ∧ Is (powerOf cov g rg) (c • Q ^ (half + half)) := by
  rw [powerOf_eq]
  have h1 : ∃ c : ℝ, 0 < c ∧ Is (remainder cov g rg) (c • Q ^ 1) := ⟨1, one_pos, by rwa [pow_one, one_smul]⟩
  have := round_is (round_is (round_is (round_is (round_is (round_is h1)))))
  have hn : 1 * 8 * 8 * 8 * 8 * 8 * 8 = half + half := by norm_num [half]
  rwa [hn] at this

end Cert.Whitening

end
-- ==== Proof.Covariance.lean ====
/- The covariance of centred data, over the extended reals: real where the data are, and with an infinite norm
   where they are not. -/
module

public import proofs.«01_k».proof.Proof.Entries

@[expose] public section

noncomputable section

namespace Cert.Whitening

open Idealize.ShloMosaic Matrix

/-- The centred data: each entry less the mean of its row. -/
def centred (x : Fin 64 → Fin 16384 → EReal) (i : Fin 64) (k : Fin 16384) : EReal :=
  x i k - Ideal.div (∑ l, x i l) (Ideal.ofBits FTy.f32 0x46800000#32)

variable {n : ℕ}

/-- The covariance of centred data, with the stabiliser on the diagonal. -/
def cov (c : Fin 64 → Fin n → EReal) (i j : Fin 64) : EReal :=
  (∑ k, c i k * c j k) * Ideal.ofBits FTy.f32 0x38800000#32 + Ideal.ofBits FTy.f32 0x3727C5AC#32 * (((1 : Mat) i j : ℝ) : EReal)

theorem cov_comm (c : Fin 64 → Fin n → EReal) (i j : Fin 64) : cov c i j = cov c j i := by
  simp only [cov, mul_comm (c i _), Matrix.one_apply, eq_comm (a := i)]

/-- The covariance of real data, as a real matrix with stabiliser `e`. -/
def realCov (r : Matrix (Fin 64) (Fin n) ℝ) (e : ℝ) : Mat := (1 / 16384 : ℝ) • (r * rᵀ) + e • (1 : Mat)

theorem realCov_symm (r : Matrix (Fin 64) (Fin n) ℝ) (e : ℝ) : (realCov r e)ᵀ = realCov r e := by
  simp [realCov, Matrix.transpose_mul]

/-- What is known of a member whose centred data are real: its covariance, and the covariance's norm. -/
theorem cov_real (r : Matrix (Fin 64) (Fin n) ℝ) : ∃ e γ : ℝ, 0 < e ∧ 0 < γ
    ∧ (∀ i j, cov (fun i k => ((r i k : ℝ) : EReal)) i j = ((realCov r e i j : ℝ) : EReal))
    ∧ normE (cov (fun i k => ((r i k : ℝ) : EReal))) = (γ : EReal) := by
  obtain ⟨e, he, hbits⟩ := bits_stab
  have hc : ∀ i j, cov (fun i k => ((r i k : ℝ) : EReal)) i j = ((realCov r e i j : ℝ) : EReal) := by
    intro i j
    rw [cov, hbits, bits_share]
    simp only [← EReal.coe_mul, sum_coe, ← EReal.coe_add]
    rw [realCov, Matrix.add_apply, Matrix.smul_apply, Matrix.smul_apply, Matrix.mul_apply, mul_comm (∑ _, _)]
    rfl
  have h0 : 0 < realCov r e 0 0 := by
    have : 0 ≤ (r * rᵀ) 0 0 := by
      rw [Matrix.mul_apply]
      exact Finset.sum_nonneg fun k _ => mul_self_nonneg _
    rw [realCov, Matrix.add_apply, Matrix.smul_apply, Matrix.smul_apply, Matrix.one_apply_eq, smul_eq_mul, smul_eq_mul]
    positivity
  obtain ⟨γ, hγ, hn⟩ := normE_coe (realCov r e) h0
  refine ⟨e, γ, he, hγ, hc, ?_⟩
  rw [← hn]
  congr 1
  funext i j
  exact hc i j

section Infinite

variable {c : Fin 64 → Fin n → EReal} {i : Fin 64} {k : Fin n}

theorem cov_nonneg (c : Fin 64 → Fin n → EReal) (i : Fin 64) : 0 ≤ cov c i i := by
  obtain ⟨e, he, hbits⟩ := bits_stab
  rw [cov, bits_share, hbits, Matrix.one_apply_eq, ← EReal.coe_mul, mul_one]
  refine add_nonneg (mul_nonneg (Finset.sum_nonneg fun k _ => mul_self_nonneg' _) ?_) ?_
  · exact EReal.coe_nonneg.mpr (by norm_num)
  · exact EReal.coe_nonneg.mpr he.le

variable (h : c i k = ⊤ ∨ c i k = ⊥)

include h

theorem cov_top : cov c i i = ⊤ := by
  obtain ⟨e, he, hbits⟩ := bits_stab
  rw [cov, sum_top (fun k => c i k * c i k) (fun k => mul_self_nonneg' _) k (by rcases h with h | h <;> rw [h] <;> simp), bits_share, hbits,
    Matrix.one_apply_eq, ← EReal.coe_mul, mul_one, EReal.top_mul_coe_of_pos (by norm_num), EReal.top_add_coe]

theorem norm_top : normE (cov c) = ⊤ := normE_top _ i (cov_top h)

end Infinite

/-- The data of a member are all real, or one of them is infinite. -/
theorem real_or_infinite (c : Fin 64 → Fin n → EReal) :
    (∃ r : Matrix (Fin 64) (Fin n) ℝ, c = fun i k => ((r i k : ℝ) : EReal)) ∨ ∃ i k, c i k = ⊤ ∨ c i k = ⊥ := by
  by_cases h : ∃ i k, c i k = ⊤ ∨ c i k = ⊥
  · exact .inr h
  · push Not at h
    refine .inl ⟨fun i k => (c i k).toReal, ?_⟩
    funext i k
    exact (EReal.coe_toReal (h i k).1 (h i k).2).symm

/-- The whitening matrix of a real member, from its covariance, the covariance's norm and the power. -/
def whitening (C : Mat) (γ : ℝ) (n : ℕ) : Mat :=
  (√γ)⁻¹ • newton (γ⁻¹ • C) 6 - (√(trace (C * proj (1 - γ⁻¹ • C) n)))⁻¹ • proj (1 - γ⁻¹ • C) n

end Cert.Whitening

end
-- ==== Proof.KernelValue.lean ====
/- The kernel's result for one member: the whitening matrix times the centred data where these are real, and zero
   where they are not. -/
module

public import proofs.«01_k».proof.Proof.KernelRoot
public import proofs.«01_k».proof.Proof.Covariance

@[expose] public section

set_option maxRecDepth 16384

noncomputable section

namespace Cert.Whitening

open Cert.KernelIdeal Cert.KernelIdeal.Gen Idealize.ShloMosaic Matrix

/-- The rows of one member's data. -/
def rows (x : S1x64x16384.Idx → EReal) : Fin 64 → Fin 16384 → EReal := fun i k => x (ix3 0 i k)

theorem rows_centred (x : Vec Ideal S1x64x16384 .f32) : rows (k0_pay4 x) = centred (rows x) := by
  funext i k
  unfold rows centred
  pointwise [k0_pay4]

theorem covOf_at (xc : Vec Ideal S1x64x16384 .f32) (i j : Fin 64) : covOf xc (ix2 i j) = cov (rows xc) i j := by
  unfold covOf cov rows
  pointwise [k0_pay10, k0_pay9, k0_pay5]
  rw [eye_is]

theorem normOf_at (xc : Vec Ideal S1x64x16384 .f32) : normOf xc (ix2 0 0) = normE (cov (rows xc)) := by
  unfold normOf normE
  pointwise [k0_pay11]
  have h : ∀ i j, k0_pay10 k0_pay2 (k0_pay9 xc) (ix2 i j) = cov (rows xc) i j := covOf_at xc
  simp only [bits_inf, h]

theorem recipOf_at (xc : Vec Ideal S1x64x16384 .f32) : recipOf xc (ix2 0 0) = Ideal.div 1 (normE (cov (rows xc))) := by
  rw [← normOf_at]
  unfold recipOf normOf
  pointwise [k0_pay12]

theorem scaled_at (xc : Vec Ideal S1x64x16384 .f32) (i j : Fin 64) :
    k0_pay22 (covOf xc) (recipOf xc) (ix2 i j) = cov (rows xc) i j * Ideal.div 1 (normE (cov (rows xc))) := by
  rw [← covOf_at, ← recipOf_at]
  pointwise [k0_pay22]

theorem remainder_at (xc : Vec Ideal S1x64x16384 .f32) (i j : Fin 64) :
    remainder (covOf xc) (normOf xc) (recipOf xc) (ix2 i j)
      = (normE (cov (rows xc)) * (((1 : Mat) i j : ℝ) : EReal) - cov (rows xc) i j) * Ideal.div 1 (normE (cov (rows xc))) := by
  rw [← covOf_at, ← recipOf_at, ← normOf_at, ← eye_is]
  unfold remainder
  pointwise

/-- A member's result, from what is known of its scaled covariance, its remainder and its variance. -/
theorem whitened_at (xc : Vec Ideal S1x64x16384 .f32) {A Q : Mat} {ρ τ : ℝ} (hA : Is (k0_pay22 (covOf xc) (recipOf xc)) A)
    (hQ : Is (remainder (covOf xc) (normOf xc) (recipOf xc)) Q) (hsymm : Qᵀ = Q)
    (hρ : Ideal.rsqrt (normE (cov (rows xc))) = (ρ : EReal))
    (hτ : ∀ i j, Ideal.rsqrt (∑ x, ∑ y, cov (rows xc) y x * ((proj Q (half + half) y x : ℝ) : EReal)) * ((proj Q (half + half) i j : ℝ) : EReal)
      = ((τ * proj Q (half + half) i j : ℝ) : EReal)) (a : Fin 64) (b : Fin 16384) :
    whitened xc (ix3 0 a b) = ∑ k, (((ρ • newton A 6 - τ • proj Q (half + half)) a k : ℝ) : EReal) * rows xc k b
      + ∑ k, (((ρ • newton A 6 - τ • proj Q (half + half)) a k : ℝ) : EReal) * (rows xc k b - rows xc k b) := by
  obtain ⟨c, hc, hR⟩ := power_is hQ
  rw [← normOf_at] at hρ
  have hroot := root_is hA hρ
  set R : Mat := c • Q ^ (half + half) with hRdef
  have ht : ∑ x, ∑ y, powerOf (covOf xc) (normOf xc) (recipOf xc) (ix2 y x) * k0_pay2 (ix2 y x) = ((trace R : ℝ) : EReal) := by
    simp only [hR _ _, eye_is _ _, ← EReal.coe_mul, sum_coe, trace, Matrix.diag, Matrix.one_apply, mul_ite, mul_one, mul_zero,
      Finset.sum_ite_eq', Finset.mem_univ, if_true]
  have hp : ∀ i j, powerOf (covOf xc) (normOf xc) (recipOf xc) (ix2 i j) * Ideal.div 1 ((trace R : ℝ) : EReal)
      = ((proj Q (half + half) i j : ℝ) : EReal) := by
    intro i j
    rw [hR, mul_recip_coe, ← proj_of_scaled hc hRdef]
    · rfl
    · intro h0
      rw [hRdef, trace_smul, smul_eq_mul] at h0
      rw [hRdef, pow_eq_zero_of_trace hsymm ((mul_eq_zero.mp h0).resolve_left hc.ne')]
      simp
  unfold whitened
  pointwise [k0_pay63, k0_pay7, k0_pay8, k0_pay6, k0_pay5]
  simp only [ht, hp, covOf_at, hτ, hroot _ _, ← EReal.coe_sub, sub_self, EReal.coe_zero, zero_mul, Finset.sum_const_zero, add_zero]
  rfl

/-- A member with real centred data. -/
theorem whitened_real (xc : Vec Ideal S1x64x16384 .f32) (r : Matrix (Fin 64) (Fin 16384) ℝ)
    (h : rows xc = fun i k => ((r i k : ℝ) : EReal)) {e γ : ℝ} (he : 0 < e) (hγ : 0 < γ)
    (hc : ∀ i j, cov (rows xc) i j = ((realCov r e i j : ℝ) : EReal)) (hn : normE (cov (rows xc)) = (γ : EReal)) (a : Fin 64) (b : Fin 16384) :
    whitened xc (ix3 0 a b) = (((whitening (realCov r e) γ (half + half) * r) a b : ℝ) : EReal) := by
  have hsymm : (1 - γ⁻¹ • realCov r e)ᵀ = 1 - γ⁻¹ • realCov r e := by
    rw [Matrix.transpose_sub, Matrix.transpose_smul, realCov_symm, Matrix.transpose_one]
  have hdiv : Ideal.div 1 (γ : EReal) = ((γ⁻¹ : ℝ) : EReal) := by rw [Ideal.div_coe hγ.ne', one_mul, one_div]
  rw [whitened_at xc (A := γ⁻¹ • realCov r e) (Q := 1 - γ⁻¹ • realCov r e) (ρ := (√γ)⁻¹)
    (τ := (√(trace (realCov r e * proj (1 - γ⁻¹ • realCov r e) (half + half))))⁻¹) ?_ ?_ hsymm ?_ ?_ a b]
  · rw [h]
    simp only [← EReal.coe_sub, sub_self, EReal.coe_zero, mul_zero, Finset.sum_const_zero, add_zero]
    exact sum_coe_mul _ _ _ _
  · intro i j
    rw [scaled_at, hc, hn, hdiv, ← EReal.coe_mul, mul_comm]
    rfl
  · intro i j
    rw [remainder_at, hc, hn, hdiv, ← EReal.coe_mul, ← EReal.coe_sub, ← EReal.coe_mul, sub_mul, mul_right_comm, mul_inv_cancel₀ hγ.ne', one_mul,
      mul_comm (realCov r e i j)]
    rfl
  · rw [hn, Ideal.rsqrt_coe, if_neg (not_lt.mpr hγ.le), if_neg hγ.ne']
  · intro i j
    have hl : ∑ x, ∑ y, cov (rows xc) y x * ((proj (1 - γ⁻¹ • realCov r e) (half + half) y x : ℝ) : EReal)
        = ((trace (realCov r e * proj (1 - γ⁻¹ • realCov r e) (half + half)) : ℝ) : EReal) := by
      simp only [hc, ← EReal.coe_mul, sum_coe]
      rw [Finset.sum_comm, trace]
      refine congrArg Real.toEReal ?_
      refine Finset.sum_congr rfl fun i _ => ?_
      rw [Matrix.diag_apply, Matrix.mul_apply]
      refine Finset.sum_congr rfl fun j _ => ?_
      nth_rewrite 1 [← proj_symm hsymm]
      rfl
    rw [hl]
    refine rsqrt_mul_coe _ _ ?_
    rcases variance_pos r (by norm_num : (0 : ℝ) ≤ 1 / 16384) he hsymm half with hv | hv
    · exact .inl hv
    · right; rw [hv]; rfl

/-- A member with infinite centred data. -/
theorem whitened_infinite (xc : Vec Ideal S1x64x16384 .f32) {i : Fin 64} {k : Fin 16384} (h : rows xc i k = ⊤ ∨ rows xc i k = ⊥)
    (a : Fin 64) (b : Fin 16384) : whitened xc (ix3 0 a b) = 0 := by
  have hn := norm_top h
  have hp : proj (0 : Mat) (half + half) = 0 := by
    rw [proj, zero_pow (by norm_num [half]), smul_zero]
  have hdiv : Ideal.div 1 ⊤ = 0 := by simp [Ideal.div]
  rw [whitened_at xc (A := 0) (Q := 0) (ρ := 0) (τ := 0) ?_ ?_ (Matrix.transpose_zero) ?_ ?_ a b]
  · have h0 : ∀ a b : Fin 64, ((0 : ℝ) • newton 0 6 - (0 : ℝ) • proj (0 : Mat) (half + half)) a b = 0 := by
      intro a b
      rw [zero_smul, zero_smul, sub_zero]
      rfl
    simp only [h0, EReal.coe_zero, zero_mul, Finset.sum_const_zero, add_zero]
  · intro i j
    rw [scaled_at, hn, hdiv, mul_zero]
    rfl
  · intro i j
    rw [remainder_at, hn, hdiv, mul_zero]
    rfl
  · rw [hn, Ideal.rsqrt_top]
    rfl
  · intro i j
    rw [hp]
    simp

end Cert.Whitening

end
-- ==== Proof.ReferenceRead.lean ====
/- What the reference program's buffers hold, member by member: the centred data, the covariance and its norm, the
   scaled covariance, the Newton iterates, the power that the loop builds, and the result. -/
module

public import proofs.«01_k».proof.Proof.Gen.ReferenceIdeal.Run
public import proofs.«01_k».proof.Proof.Covariance
public import Idealize.ShloMosaic.Lib.StableHlo.ReadAt

@[expose] public section

set_option maxRecDepth 16384

noncomputable section

namespace Cert.Whitening

open Cert.ReferenceIdeal Cert.ReferenceIdeal.Gen Idealize.ShloMosaic Idealize.ShloMosaic.StableHlo Idealize.ShloMosaic.TcCoe Matrix

/-- The contents of one device's buffers. -/
abbrev Contents : Type := Valuation τ sig (Elt Ideal)

/-- Member `b` of the argument, by rows. -/
def input (V : Contents) (b : Fin 32) : Fin 64 → Fin 16384 → EReal :=
  fun i k => (V (Proc.devRef .tc main_arg0) : S32x64x16384.Idx → EReal) (ix3 b i k)

/-- `n` operations of the stretch before the loop, from position `a`. -/
abbrev stretch (a n : ℕ) : List (HloOp τ sig (Elt Ideal)) := (hostOps0.drop a).take n

theorem after_pair (l k : List (HloOp τ sig (Elt Ideal))) (V : Contents) : after (l ++ k) V = after k (after l V) := by
  induction l generalizing V with
  | nil => rfl
  | cons op l ih => exact ih _

/-- The rest of the stretch from `a` is the next `n` operations and the rest from there. -/
theorem after_stretch (a n : ℕ) (V : Contents) :
    after ((hostOps0 (F := Ideal)).drop a) V = after ((hostOps0 (F := Ideal)).drop (a + n)) (after (stretch a n) V) := by
  rw [← after_pair, ← List.drop_drop, List.take_append_drop]

/-- What the buffers hold of member `b` once its scaled covariance is formed: the centred data `c`, their covariance
    and its norm, and the identity. -/
structure Base (V : Contents) (b : Fin 32) (c : Fin 64 → Fin 16384 → EReal) : Prop where
  data : ∀ i k, (V (Proc.devRef .tc main_v5) : S32x64x16384.Idx → EReal) (ix3 b i k) = c i k
  covariance : ∀ i j, (V (Proc.devRef .tc main_v20) : S32x64x64.Idx → EReal) (ix3 b i j) = cov c i j
  norm : (V (Proc.devRef .tc main_v24) : S32x1x1.Idx → EReal) (ix3 b 0 0) = normE (cov c)

/-- The two further operands of a Newton step: the scaled covariance, the real matrix `A`, and the identity. -/
structure Operands (V : Contents) (b : Fin 32) (A : Mat) : Prop where
  scaled : ∀ i j, (V (Proc.devRef .tc main_v26) : S32x64x64.Idx → EReal) (ix3 b i j) = ((A i j : ℝ) : EReal)
  eye : ∀ i j, (V (Proc.devRef .tc main_v15) : S64x64.Idx → EReal) (ix2 i j) = (((1 : Mat) i j : ℝ) : EReal)

section First

variable (V : Contents) (b : Fin 32)

theorem eye_entry (i j : Fin 64) : (after (stretch 0 26) V (Proc.devRef .tc main_v15) : S64x64.Idx → EReal) (ix2 i j)
    = (((1 : Mat) i j : ℝ) : EReal) := by
  after_reads_at
  exact delta_unsigned i j

theorem data_entry (i : Fin 64) (k : Fin 16384) : (after (stretch 0 26) V (Proc.devRef .tc main_v5) : S32x64x16384.Idx → EReal) (ix3 b i k)
    = centred (input V b) i k := by
  unfold centred input
  after_reads_at

theorem covariance_entry (i j : Fin 64) : (after (stretch 0 26) V (Proc.devRef .tc main_v20) : S32x64x64.Idx → EReal) (ix3 b i j)
    = cov (centred (input V b)) i j := by
  unfold cov centred input
  after_reads_at
  rw [delta_unsigned, div_count]

end First

section Second

variable {V : Contents} {b : Fin 32} {c : Fin 64 → Fin 16384 → EReal}
  (h : ∀ i j, (V (Proc.devRef .tc main_v20) : S32x64x64.Idx → EReal) (ix3 b i j) = cov c i j)

include h

theorem norm_entry : (after (stretch 26 9) V (Proc.devRef .tc main_v24) : S32x1x1.Idx → EReal) (ix3 b 0 0) = normE (cov c) := by
  unfold normE
  after_reads_at
  simp only [fun i j => (h i j).trans (cov_comm c i j), bits_inf]

theorem scaled_entry (i j : Fin 64) : (after (stretch 26 9) V (Proc.devRef .tc main_v26) : S32x64x64.Idx → EReal) (ix3 b i j)
    = Ideal.div (cov c i j) (normE (cov c)) := by
  rw [← norm_entry h, ← h]
  after_reads_at

end Second

end Cert.Whitening

end
-- ==== Proof.ReferenceSteps.lean ====
/- The reference's six Newton steps, and what the buffers hold when its loop begins. -/
module

public import proofs.«01_k».proof.Proof.ReferenceRead

@[expose] public section

set_option maxRecDepth 16384

noncomputable section

namespace Cert.Whitening

open Cert.ReferenceIdeal Cert.ReferenceIdeal.Gen Idealize.ShloMosaic Idealize.ShloMosaic.StableHlo Idealize.ShloMosaic.TcCoe Matrix

/-- One Newton step on real entries. -/
theorem newton_entry {a z e : Fin 64 → Fin 64 → EReal} {A : Mat} {k : ℕ} (ha : ∀ i j, a i j = ((A i j : ℝ) : EReal))
    (hz : ∀ i j, z i j = ((newton A k i j : ℝ) : EReal)) (he : ∀ i j, e i j = (((1 : Mat) i j : ℝ) : EReal)) (i j : Fin 64) :
    Ideal.div (∑ x, z i x * (Ideal.ofBits FTy.f32 0x40400000#32 * e x j - ∑ y, (∑ w, a x w * z w y) * z y j)) (Ideal.ofBits FTy.f32 0x40000000#32)
      = ((newton A (k + 1) i j : ℝ) : EReal) := by
  have h : ∀ x, Ideal.ofBits FTy.f32 0x40400000#32 * e x j - ∑ y, (∑ w, a x w * z w y) * z y j
      = ((((3 : ℝ) • (1 : Mat) - A * newton A k * newton A k) x j : ℝ) : EReal) := by
    intro x
    simp only [ha, hz, he, sum_coe_mul, bits_three, ← EReal.coe_mul, ← EReal.coe_sub]
    rfl
  simp only [h]
  simp only [hz, sum_coe_mul]
  rw [bits_two, Ideal.div_coe (by norm_num), ← EReal.coe_mul, mul_comm]
  rfl

/-- A stretch that writes none of the four buffers keeps what they hold. -/
theorem base_kept {V W : Contents} {b : Fin 32} {c : Fin 64 → Fin 16384 → EReal} (h : Base V b c)
    (h5 : W (Proc.devRef .tc main_v5) = V (Proc.devRef .tc main_v5)) (h20 : W (Proc.devRef .tc main_v20) = V (Proc.devRef .tc main_v20))
    (h24 : W (Proc.devRef .tc main_v24) = V (Proc.devRef .tc main_v24)) : Base W b c :=
  ⟨fun i k => by rw [h5]; exact h.data i k, fun i j => by rw [h20]; exact h.covariance i j, by rw [h24]; exact h.norm⟩

theorem operands_kept {V W : Contents} {b : Fin 32} {A : Mat} (h : Operands V b A)
    (h26 : W (Proc.devRef .tc main_v26) = V (Proc.devRef .tc main_v26)) (h15 : W (Proc.devRef .tc main_v15) = V (Proc.devRef .tc main_v15)) :
    Operands W b A :=
  ⟨fun i j => by rw [h26]; exact h.scaled i j, fun i j => by rw [h15]; exact h.eye i j⟩

/-- What the buffers hold when the first Newton step begins. -/
theorem start (V : Contents) (b : Fin 32) {A : Mat}
    (hA : ∀ i j, Ideal.div (cov (centred (input V b)) i j) (normE (cov (centred (input V b)))) = ((A i j : ℝ) : EReal)) :
    Base (after (stretch 26 9) (after (stretch 0 26) V)) b (centred (input V b)) ∧ Operands (after (stretch 26 9) (after (stretch 0 26) V)) b A
      ∧ ∀ i j, (after (stretch 26 9) (after (stretch 0 26) V) (Proc.devRef .tc main_v27) : S32x64x64.Idx → EReal) (ix3 b i j)
        = ((newton A 0 i j : ℝ) : EReal) := by
  have hd := data_entry V b
  have he := eye_entry V
  have hc := covariance_entry V b
  generalize after (stretch 0 26) V = W at hd he hc ⊢
  refine ⟨⟨fun i k => ?_, fun i j => ?_, norm_entry hc⟩, ⟨fun i j => (scaled_entry hc i j).trans (hA i j), fun i j => ?_⟩, fun i j => ?_⟩
  · rw [← hd]; after_reads_simp
  · rw [← hc]; after_reads_simp
  · rw [← he]; after_reads_simp
  · refine Eq.trans ?_ (he i j)
    after_reads_at

section Steps

variable {V : Contents} {b : Fin 32} {A : Mat} (h : Operands V b A)

include h

theorem step1 (hz : ∀ i j, (V (Proc.devRef .tc main_v27) : S32x64x64.Idx → EReal) (ix3 b i j) = ((newton A 0 i j : ℝ) : EReal)) (i j : Fin 64) :
    (after (stretch 35 12) V (Proc.devRef .tc main_v37) : S32x64x64.Idx → EReal) (ix3 b i j) = ((newton A 1 i j : ℝ) : EReal) := by
  refine Eq.trans ?_ (newton_entry h.scaled hz h.eye i j)
  after_reads_at

theorem step2 (hz : ∀ i j, (V (Proc.devRef .tc main_v37) : S32x64x64.Idx → EReal) (ix3 b i j) = ((newton A 1 i j : ℝ) : EReal)) (i j : Fin 64) :
    (after (stretch 47 12) V (Proc.devRef .tc main_v47) : S32x64x64.Idx → EReal) (ix3 b i j) = ((newton A 2 i j : ℝ) : EReal) := by
  refine Eq.trans ?_ (newton_entry h.scaled hz h.eye i j)
  after_reads_at

theorem step3 (hz : ∀ i j, (V (Proc.devRef .tc main_v47) : S32x64x64.Idx → EReal) (ix3 b i j) = ((newton A 2 i j : ℝ) : EReal)) (i j : Fin 64) :
    (after (stretch 59 12) V (Proc.devRef .tc main_v57) : S32x64x64.Idx → EReal) (ix3 b i j) = ((newton A 3 i j : ℝ) : EReal) := by
  refine Eq.trans ?_ (newton_entry h.scaled hz h.eye i j)
  after_reads_at

theorem step4 (hz : ∀ i j, (V (Proc.devRef .tc main_v57) : S32x64x64.Idx → EReal) (ix3 b i j) = ((newton A 3 i j : ℝ) : EReal)) (i j : Fin 64) :
    (after (stretch 71 12) V (Proc.devRef .tc main_v67) : S32x64x64.Idx → EReal) (ix3 b i j) = ((newton A 4 i j : ℝ) : EReal) := by
  refine Eq.trans ?_ (newton_entry h.scaled hz h.eye i j)
  after_reads_at

theorem step5 (hz : ∀ i j, (V (Proc.devRef .tc main_v67) : S32x64x64.Idx → EReal) (ix3 b i j) = ((newton A 4 i j : ℝ) : EReal)) (i j : Fin 64) :
    (after (stretch 83 12) V (Proc.devRef .tc main_v77) : S32x64x64.Idx → EReal) (ix3 b i j) = ((newton A 5 i j : ℝ) : EReal) := by
  refine Eq.trans ?_ (newton_entry h.scaled hz h.eye i j)
  after_reads_at

theorem step6 (hz : ∀ i j, (V (Proc.devRef .tc main_v77) : S32x64x64.Idx → EReal) (ix3 b i j) = ((newton A 5 i j : ℝ) : EReal)) (i j : Fin 64) :
    (after (stretch 95 12) V (Proc.devRef .tc main_v87) : S32x64x64.Idx → EReal) (ix3 b i j) = ((newton A 6 i j : ℝ) : EReal) := by
  refine Eq.trans ?_ (newton_entry h.scaled hz h.eye i j)
  after_reads_at

/-- The loop's two operands at its entry: the identity less the scaled covariance, and the identity. -/
theorem remainder_entry (i j : Fin 64) : (after (stretch 107 10) V (Proc.devRef .tc main_v92_0) : S32x64x64.Idx → EReal) (ix3 b i j)
    = (((1 - A) i j : ℝ) : EReal) := by
  have hs := h.scaled i j
  have he := h.eye i j
  refine Eq.trans ?_ (EReal.coe_sub ((1 : Mat) i j) (A i j)).symm
  rw [← hs, ← he]
  after_reads_at
  simp only [id]
  pointwise

theorem power_entry (i j : Fin 64) : (after (stretch 107 10) V (Proc.devRef .tc main_v92_3) : S32x64x64.Idx → EReal) (ix3 b i j)
    = ((((1 - A) ^ 0 : Mat) i j : ℝ) : EReal) := by
  rw [pow_zero]
  refine Eq.trans ?_ (h.eye i j)
  after_reads_at
  simp only [id]
  pointwise

end Steps

end Cert.Whitening

end
-- ==== Proof.ReferenceLoop.lean ====
/- The reference's loop: what its buffers hold at the entry, and after any number of trips. -/
module

public import proofs.«01_k».proof.Proof.ReferenceSteps

@[expose] public section

set_option maxRecDepth 16384

noncomputable section

namespace Cert.Whitening

open Cert.ReferenceIdeal Cert.ReferenceIdeal.Gen Cert.ReferenceIdeal.Value Idealize.ShloMosaic Idealize.ShloMosaic.StableHlo Idealize.ShloMosaic.TcCoe Matrix

/-- What the buffers hold of member `b` after `k` trips of the loop. -/
structure Trip (V : Contents) (b : Fin 32) (c : Fin 64 → Fin 16384 → EReal) (A : Mat) (k : ℕ) : Prop where
  base : Base V b c
  iterate : ∀ i j, (V (Proc.devRef .tc main_v87) : S32x64x64.Idx → EReal) (ix3 b i j) = ((newton A 6 i j : ℝ) : EReal)
  remainder : ∀ i j, (V (Proc.devRef .tc main_v92_0) : S32x64x64.Idx → EReal) (ix3 b i j) = (((1 - A) i j : ℝ) : EReal)
  power : ∀ i j, (V (Proc.devRef .tc main_v92_3) : S32x64x64.Idx → EReal) (ix3 b i j) = ((((1 - A) ^ k : Mat) i j : ℝ) : EReal)

theorem trip_entry (V : Contents) (b : Fin 32) {A : Mat}
    (hA : ∀ i j, Ideal.div (cov (centred (input V b)) i j) (normE (cov (centred (input V b)))) = ((A i j : ℝ) : EReal)) :
    Trip (after hostOps0 V) b (centred (input V b)) A 0 := by
  obtain ⟨hb, ho, hz⟩ := start V b hA
  have hcut : after (hostOps0 (F := Ideal)) V = after (stretch 107 10) (after (stretch 95 12) (after (stretch 83 12) (after (stretch 71 12)
      (after (stretch 59 12) (after (stretch 47 12) (after (stretch 35 12) (after (stretch 26 9) (after (stretch 0 26) V)))))))) := by
    refine (after_stretch 0 26 V).trans ?_
    rw [after_stretch (0 + 26) 9, after_stretch (0 + 26 + 9) 12, after_stretch (0 + 26 + 9 + 12) 12, after_stretch (0 + 26 + 9 + 12 + 12) 12,
      after_stretch (0 + 26 + 9 + 12 + 12 + 12) 12, after_stretch (0 + 26 + 9 + 12 + 12 + 12 + 12) 12,
      after_stretch (0 + 26 + 9 + 12 + 12 + 12 + 12 + 12) 12, after_stretch (0 + 26 + 9 + 12 + 12 + 12 + 12 + 12 + 12) 10]
    rfl
  rw [hcut]
  generalize after (stretch 26 9) (after (stretch 0 26) V) = W at hb ho hz ⊢
  have z1 := step1 ho hz
  replace hb : Base (after (stretch 35 12) W) b _ := base_kept hb (by after_reads_simp) (by after_reads_simp) (by after_reads_simp)
  replace ho : Operands (after (stretch 35 12) W) b _ := operands_kept ho (by after_reads_simp) (by after_reads_simp)
  generalize after (stretch 35 12) W = W at hb ho z1 ⊢
  have z2 := step2 ho z1
  replace hb : Base (after (stretch 47 12) W) b _ := base_kept hb (by after_reads_simp) (by after_reads_simp) (by after_reads_simp)
  replace ho : Operands (after (stretch 47 12) W) b _ := operands_kept ho (by after_reads_simp) (by after_reads_simp)
  generalize after (stretch 47 12) W = W at hb ho z2 ⊢
  have z3 := step3 ho z2
  replace hb : Base (after (stretch 59 12) W) b _ := base_kept hb (by after_reads_simp) (by after_reads_simp) (by after_reads_simp)
  replace ho : Operands (after (stretch 59 12) W) b _ := operands_kept ho (by after_reads_simp) (by after_reads_simp)
  generalize after (stretch 59 12) W = W at hb ho z3 ⊢
  have z4 := step4 ho z3
  replace hb : Base (after (stretch 71 12) W) b _ := base_kept hb (by after_reads_simp) (by after_reads_simp) (by after_reads_simp)
  replace ho : Operands (after (stretch 71 12) W) b _ := operands_kept ho (by after_reads_simp) (by after_reads_simp)
  generalize after (stretch 71 12) W = W at hb ho z4 ⊢
  have z5 := step5 ho z4
  replace hb : Base (after (stretch 83 12) W) b _ := base_kept hb (by after_reads_simp) (by after_reads_simp) (by after_reads_simp)
  replace ho : Operands (after (stretch 83 12) W) b _ := operands_kept ho (by after_reads_simp) (by after_reads_simp)
  generalize after (stretch 83 12) W = W at hb ho z5 ⊢
  have z6 := step6 ho z5
  replace hb : Base (after (stretch 95 12) W) b _ := base_kept hb (by after_reads_simp) (by after_reads_simp) (by after_reads_simp)
  replace ho : Operands (after (stretch 95 12) W) b _ := operands_kept ho (by after_reads_simp) (by after_reads_simp)
  generalize after (stretch 95 12) W = W at hb ho z6 ⊢
  refine ⟨base_kept hb (by after_reads_simp) (by after_reads_simp) (by after_reads_simp), fun i j => ?_, remainder_entry ho, power_entry ho⟩
  rw [← z6]; after_reads_simp

/-- One trip multiplies the power by the remainder. -/
theorem trip_next {V : Contents} {b : Fin 32} {c : Fin 64 → Fin 16384 → EReal} {A : Mat} {k : ℕ} (h : Trip V b c A k) :
    Trip (afterL bodyI (after condOps V)) b c A (k + 1) := by
  have hb : afterL (F := Ideal) bodyI (after condOps V) = after while0Ops0 (after condOps V) := rfl
  rw [hb]
  refine ⟨base_kept h.base (by after_reads_simp) (by after_reads_simp) (by after_reads_simp), fun i j => ?_, fun i j => ?_, fun i j => ?_⟩
  · rw [← h.iterate]; after_reads_simp
  · rw [← h.remainder]; after_reads_simp
  · refine Eq.trans ?_ ((sum_entries h.power h.remainder i j).trans (by rw [pow_succ]))
    after_reads_at
    simp only [id]
    pointwise

/-- What the buffers hold after `k` trips. -/
theorem trips (m : (ℓ : Loc nD τ sig) → Buf (Elt Ideal) ℓ) (d : Dev nD) (b : Fin 32) {A : Mat}
    (hA : ∀ i j, Ideal.div (cov (centred (input (launchContents m d) b)) i j) (normE (cov (centred (input (launchContents m d) b)))) = ((A i j : ℝ) : EReal)) :
    ∀ k, Trip (atK m k d) b (centred (input (launchContents m d) b)) A k
  | 0 => trip_entry _ b hA
  | k + 1 => trip_next (trips m d b hA k)

end Cert.Whitening

end
-- ==== Proof.ReferenceValue.lean ====
/- The reference's result for one member: the whitening matrix times the centred data where these are real, and zero
   where they are not; and its run. -/
module

public import proofs.«01_k».proof.Proof.ReferenceLoop

@[expose] public section

set_option maxRecDepth 16384

noncomputable section

namespace Cert.Whitening

open Cert.ReferenceIdeal Cert.ReferenceIdeal.Gen Cert.ReferenceIdeal.Value Idealize.ShloMosaic Idealize.ShloMosaic.StableHlo Idealize.ShloMosaic.TcCoe Matrix

/-- The buffers after the operations that follow the loop. -/
abbrev finish (V : Contents) : Contents := after hostOps0_4 (after hostOps0_3 (after hostOps0_2 (after hostOps0_1 V)))

theorem sum_products {f g f' g' : Fin 64 → Fin 64 → EReal} (hf : ∀ i j, f i j = f' i j) (hg : ∀ i j, g i j = g' i j) (i j : Fin 64) :
    ∑ x, f i x * g x j = ∑ x, f' i x * g' x j := by
  simp only [hf, hg]

/-- The last product, on entries that are known. -/
theorem result_sum {z p : Fin 64 → Fin 64 → EReal} {g l n v : EReal} {d c : Fin 64 → Fin 16384 → EReal} {Z P : Mat} {ρ τ : ℝ}
    (hρ : ∀ a : ℝ, Ideal.div (a : EReal) (Ideal.sqrt n) = ((ρ * a : ℝ) : EReal))
    (hτ : ∀ i j, Ideal.rsqrt v * ((P i j : ℝ) : EReal) = ((τ * P i j : ℝ) : EReal))
    (hz : ∀ i j, z i j = ((Z i j : ℝ) : EReal)) (hp : ∀ i j, p i j = ((P i j : ℝ) : EReal)) (hg : g = n) (hl : l = v)
    (hd : ∀ i k, d i k = c i k) (i : Fin 64) (j : Fin 16384) :
    ∑ x, (Ideal.div (z i x) (Ideal.sqrt g) - Ideal.rsqrt l * p i x) * d x j = ∑ x, (((ρ • Z - τ • P) i x : ℝ) : EReal) * c x j := by
  simp only [hz, hp, hg, hl, hd, hρ, hτ, ← EReal.coe_sub]
  rfl

section Finish

variable {V : Contents} {b : Fin 32} {c : Fin 64 → Fin 16384 → EReal} {A : Mat} {k : ℕ} (h : Trip V b c A k)

include h

theorem trace_entry : (after hostOps0_1 V (Proc.devRef .tc main_v93) : S32.Idx → EReal) (ix1 b) = ((trace ((1 - A) ^ k : Mat) : ℝ) : EReal) := by
  have hs : ∑ x, ((((1 - A) ^ k : Mat) x x : ℝ) : EReal) = ((trace ((1 - A) ^ k : Mat) : ℝ) : EReal) := by
    rw [sum_coe]
    rfl
  refine Eq.trans ?_ ((sum_diagonal h.power).trans hs)
  after_reads_at
  simp only [select_same]

/-- The projector's entries, where the power is zero if its trace is. -/
theorem projector_entry (h0 : trace ((1 - A) ^ k : Mat) = 0 → (1 - A) ^ k = 0) (i j : Fin 64) :
    (after hostOps0_2 (after hostOps0_1 V) (Proc.devRef .tc main_v98) : S32x64x64.Idx → EReal) (ix3 b i j) = ((proj (1 - A) k i j : ℝ) : EReal) := by
  have ht := trace_entry h
  have hp : (after hostOps0_1 V (Proc.devRef .tc main_v92_3) : S32x64x64.Idx → EReal) (ix3 b i j) = ((((1 - A) ^ k : Mat) i j : ℝ) : EReal) := by
    rw [← h.power]; after_reads_simp
  generalize after hostOps0_1 V = W at ht hp ⊢
  have hm := mul_recip_coe (((1 - A) ^ k : Mat) i j) (trace ((1 - A) ^ k : Mat)) fun e => by rw [h0 e]; rfl
  refine Eq.trans ?_ hm
  rw [← ht, ← hp]
  after_reads_at

theorem variance_entry (h0 : trace ((1 - A) ^ k : Mat) = 0 → (1 - A) ^ k = 0) :
    (after hostOps0_3 (after hostOps0_2 (after hostOps0_1 V)) (Proc.devRef .tc main_v100) : S32.Idx → EReal) (ix1 b)
      = ∑ x, ∑ y, cov c x y * ((proj (1 - A) k y x : ℝ) : EReal) := by
  have hp := projector_entry h h0
  have hc : ∀ i j, (after hostOps0_1 V (Proc.devRef .tc main_v20) : S32x64x64.Idx → EReal) (ix3 b i j) = cov c i j := by
    intro i j
    refine Eq.trans ?_ (h.base.covariance i j)
    after_reads_simp
  generalize after hostOps0_1 V = W at hp hc ⊢
  have hq : ∀ i j, (after hostOps0_2 W (Proc.devRef .tc main_v99) : S32x64x64.Idx → EReal) (ix3 b i j)
      = ∑ y, cov c i y * ((proj (1 - A) k y j : ℝ) : EReal) := by
    intro i j
    refine Eq.trans ?_ (sum_products hc hp i j)
    after_reads_at
  generalize after hostOps0_2 W = W' at hq ⊢
  have hd := sum_diagonal hq
  refine Eq.trans ?_ hd
  after_reads_at
  simp only [select_same]

/-- The result's entries, from what is known of the norm and the variance. -/
theorem result_entry (h0 : trace ((1 - A) ^ k : Mat) = 0 → (1 - A) ^ k = 0) {ρ τ : ℝ}
    (hρ : ∀ a : ℝ, Ideal.div (a : EReal) (Ideal.sqrt (normE (cov c))) = ((ρ * a : ℝ) : EReal))
    (hτ : ∀ i j, Ideal.rsqrt (∑ x, ∑ y, cov c x y * ((proj (1 - A) k y x : ℝ) : EReal)) * ((proj (1 - A) k i j : ℝ) : EReal)
      = ((τ * proj (1 - A) k i j : ℝ) : EReal)) (i : Fin 64) (j : Fin 16384) :
    (finish V (Proc.devRef .tc main_v109) : S32x64x16384.Idx → EReal) (ix3 b i j)
      = ∑ x, (((ρ • newton A 6 - τ • proj (1 - A) k) i x : ℝ) : EReal) * c x j := by
  have hv := variance_entry h h0
  have hp : ∀ i j, (after hostOps0_3 (after hostOps0_2 (after hostOps0_1 V)) (Proc.devRef .tc main_v98) : S32x64x64.Idx → EReal) (ix3 b i j)
      = ((proj (1 - A) k i j : ℝ) : EReal) := by
    intro i j; rw [← projector_entry h h0]; after_reads_simp
  have hz : ∀ i j, (after hostOps0_3 (after hostOps0_2 (after hostOps0_1 V)) (Proc.devRef .tc main_v87) : S32x64x64.Idx → EReal) (ix3 b i j)
      = ((newton A 6 i j : ℝ) : EReal) := by
    intro i j; rw [← h.iterate]; after_reads_simp
  have hb : Base (after hostOps0_3 (after hostOps0_2 (after hostOps0_1 V))) b c :=
    base_kept h.base (by after_reads_simp) (by after_reads_simp) (by after_reads_simp)
  unfold finish
  generalize after hostOps0_3 (after hostOps0_2 (after hostOps0_1 V)) = W at hv hp hz hb ⊢
  refine Eq.trans ?_ (result_sum hρ hτ hz hp hb.norm hv hb.data i j)
  after_reads_at

end Finish

end Cert.Whitening

end
-- ==== Proof.ReferenceRun.lean ====
/- The reference's result for one member, in the two cases of its centred data, and what its run leaves. -/
module

public import proofs.«01_k».proof.Proof.ReferenceValue
public import Idealize.ShloMosaic.Lib.Quiescent

@[expose] public section

set_option maxRecDepth 16384

noncomputable section

namespace Cert.Whitening

open Cert.ReferenceIdeal Cert.ReferenceIdeal.Gen Cert.ReferenceIdeal.Value Idealize.ShloMosaic Idealize.ShloMosaic.StableHlo Idealize.ShloMosaic.TcCoe Matrix

variable (m : (ℓ : Loc nD τ sig) → Buf (Elt Ideal) ℓ) (d : Dev nD)

/-- The buffers when the reference ends. -/
abbrev ending : Contents := finalContents condOps preI bodyI postI 262144 m d

/-- The centred data of member `b`. -/
abbrev datum (b : Fin 32) : Fin 64 → Fin 16384 → EReal := centred (input (launchContents m d) b)

theorem argument_trips : ∀ k, atK m k d (Proc.devRef .tc main_arg0) = m ((d : Thread nD τ).loc main_arg0)
  | 0 => by
    have h : atK m 0 d = after hostOps0 (launchContents m d) := rfl
    rw [h, after_of_writes_sub hostOps0 _ hostOps0_writes (by decide)]
  | k + 1 => by
    have h : atK m (k + 1) d = after while0Ops0 (after condOps (atK m k d)) := rfl
    rw [h]
    refine Eq.trans ?_ (argument_trips k)
    after_reads_simp

/-- The argument is left as it was. -/
theorem argument_kept : ending m d (Proc.devRef .tc main_arg0) = m ((d : Thread nD τ).loc main_arg0) := by
  refine Eq.trans ?_ (argument_trips m d 262144)
  change after hostOps0_4 (after hostOps0_3 (after hostOps0_2 (after hostOps0_1 (after condOps (atK m 262144 d))))) (Proc.devRef .tc main_arg0) = _
  generalize atK m 262144 d = W
  after_reads_simp

/-- What the buffers hold of member `b` when the loop is left. -/
theorem loop_left (b : Fin 32) {A : Mat} (hA : ∀ i j, Ideal.div (cov (datum m d b) i j) (normE (cov (datum m d b))) = ((A i j : ℝ) : EReal)) :
    Trip (after condOps (atK m 262144 d)) b (datum m d b) A (half + half) := by
  have h := trips m d b hA 262144
  have hn : 262144 = half + half := by norm_num [half]
  rw [hn] at h ⊢
  generalize atK m (half + half) d = W at h ⊢
  refine ⟨base_kept h.base (by after_reads_simp) (by after_reads_simp) (by after_reads_simp), fun i j => ?_, fun i j => ?_, fun i j => ?_⟩
  · rw [← h.iterate]; after_reads_simp
  · rw [← h.remainder]; after_reads_simp
  · rw [← h.power]; after_reads_simp

/-- A member with real centred data. -/
theorem result_real (b : Fin 32) (r : Matrix (Fin 64) (Fin 16384) ℝ) (h : datum m d b = fun i k => ((r i k : ℝ) : EReal)) {e γ : ℝ}
    (he : 0 < e) (hγ : 0 < γ) (hc : ∀ i j, cov (datum m d b) i j = ((realCov r e i j : ℝ) : EReal)) (hn : normE (cov (datum m d b)) = (γ : EReal))
    (i : Fin 64) (j : Fin 16384) : (ending m d (Proc.devRef .tc main_v109) : S32x64x16384.Idx → EReal) (ix3 b i j)
      = (((whitening (realCov r e) γ (half + half) * r) i j : ℝ) : EReal) := by
  have hsymm : (1 - γ⁻¹ • realCov r e)ᵀ = 1 - γ⁻¹ • realCov r e := by
    rw [Matrix.transpose_sub, Matrix.transpose_smul, realCov_symm, Matrix.transpose_one]
  have hA : ∀ i j, Ideal.div (cov (datum m d b) i j) (normE (cov (datum m d b))) = (((γ⁻¹ • realCov r e) i j : ℝ) : EReal) := by
    intro i j
    rw [hc, hn, Ideal.div_coe hγ.ne', ← EReal.coe_mul, one_div, mul_comm]
    rfl
  have hres := result_entry (loop_left m d b hA) (pow_eq_zero_of_trace hsymm) (ρ := (√γ)⁻¹)
    (τ := (√(trace (realCov r e * proj (1 - γ⁻¹ • realCov r e) (half + half))))⁻¹) ?_ ?_ i j
  · refine hres.trans ?_
    rw [h]
    exact sum_coe_mul _ _ _ _
  · intro a
    rw [hn, Ideal.sqrt_coe, if_neg (not_lt.mpr hγ.le), Ideal.div_coe (Real.sqrt_ne_zero'.mpr hγ), ← EReal.coe_mul, one_div, mul_comm]
  · intro i j
    have hl : ∑ x, ∑ y, cov (datum m d b) x y * ((proj (1 - γ⁻¹ • realCov r e) (half + half) y x : ℝ) : EReal)
        = ((trace (realCov r e * proj (1 - γ⁻¹ • realCov r e) (half + half)) : ℝ) : EReal) := by
      simp only [hc, sum_coe_mul, sum_coe]
      rfl
    rw [hl]
    refine rsqrt_mul_coe _ _ ?_
    rcases variance_pos r (by norm_num : (0 : ℝ) ≤ 1 / 16384) he hsymm half with hv | hv
    · exact .inl hv
    · right; rw [hv]; rfl

/-- A member with infinite centred data. -/
theorem result_infinite (b : Fin 32) {i₀ : Fin 64} {k₀ : Fin 16384} (h : datum m d b i₀ k₀ = ⊤ ∨ datum m d b i₀ k₀ = ⊥)
    (i : Fin 64) (j : Fin 16384) : (ending m d (Proc.devRef .tc main_v109) : S32x64x16384.Idx → EReal) (ix3 b i j) = (0 : EReal) := by
  have hn := norm_top h
  have hA : ∀ i j, Ideal.div (cov (datum m d b) i j) (normE (cov (datum m d b))) = (((0 : Mat) i j : ℝ) : EReal) := by
    intro i j
    rw [hn]
    simp [Ideal.div]
  have hsymm : (1 - (0 : Mat))ᵀ = 1 - (0 : Mat) := by rw [sub_zero, Matrix.transpose_one]
  have hproj : proj (1 - (0 : Mat)) (half + half) = (1 / 64 : ℝ) • (1 : Mat) := by
    rw [proj, sub_zero, one_pow, trace_one, one_div]
    simp
  have hres := result_entry (loop_left m d b hA) (pow_eq_zero_of_trace hsymm) (ρ := 0) (τ := 0) ?_ ?_ i j
  · refine hres.trans ?_
    have h0 : ∀ a b : Fin 64, ((0 : ℝ) • newton 0 6 - (0 : ℝ) • proj (1 - (0 : Mat)) (half + half)) a b = 0 := by
      intro a b
      rw [zero_smul, zero_smul, sub_zero]
      rfl
    simp only [h0, EReal.coe_zero, zero_mul, Finset.sum_const_zero]
  · intro a
    rw [hn, Ideal.sqrt_top, zero_mul, EReal.coe_zero]
    simp [Ideal.div]
  · intro i j
    have hl : ∑ x, ∑ y, cov (datum m d b) x y * ((proj (1 - (0 : Mat)) (half + half) y x : ℝ) : EReal) = ⊤ := by
      have hx : ∀ x, ∑ y, cov (datum m d b) x y * ((proj (1 - (0 : Mat)) (half + half) y x : ℝ) : EReal)
          = cov (datum m d b) x x * ((1 / 64 : ℝ) : EReal) := by
        intro x
        rw [Finset.sum_eq_single x]
        · rw [hproj, Matrix.smul_apply, Matrix.one_apply_eq, smul_eq_mul, mul_one]
        · intro y _ hy
          rw [hproj, Matrix.smul_apply, Matrix.one_apply_ne hy, smul_zero, EReal.coe_zero, mul_zero]
        · exact fun hx => absurd (Finset.mem_univ x) hx
      simp only [hx]
      refine sum_top _ (fun x => mul_nonneg (cov_nonneg _ x) (EReal.coe_nonneg.mpr (by norm_num))) i₀ ?_
      rw [cov_top h, EReal.top_mul_coe_of_pos (by norm_num)]
    rw [hl, Ideal.rsqrt_top, zero_mul, zero_mul, EReal.coe_zero]

end Cert.Whitening

end
-- ==== Proof.Equation.lean ====
/- The equation: on the same argument, the array that the kernel leaves is the one that the reference leaves. -/
module

public import proofs.«01_k».proof.Proof.KernelValue
public import proofs.«01_k».proof.Proof.ReferenceRun

@[expose] public section

set_option maxRecDepth 16384

noncomputable section

namespace Cert.Whitening

open Idealize.ShloMosaic Idealize.ShloMosaic.StableHlo Idealize.ShloMosaic.TcCoe Matrix

/-- The array of the members' results. -/
def results (X : Cert.KernelIdeal.S32x64x16384.Idx → EReal) : Cert.KernelIdeal.S32x64x16384.Idx → EReal :=
  fun i => member (slab X (i 0)) (ix3 0 (i 1) (i 2))

theorem rows_slab (X : Cert.KernelIdeal.S32x64x16384.Idx → EReal) (b : Fin 32) :
    rows (Cert.KernelIdeal.Gen.k0_pay4 (F := Ideal) (slab X b)) = centred fun i k => X (ix3 b i k) := by
  rw [rows_centred]
  rfl

/-- The reference's array is the kernel's. -/
theorem results_eq (m : (ℓ : Loc Cert.ReferenceIdeal.nD Cert.ReferenceIdeal.τ Cert.ReferenceIdeal.sig) → Buf (Elt Ideal) ℓ)
    (d : Dev Cert.ReferenceIdeal.nD) (X : Cert.KernelIdeal.S32x64x16384.Idx → EReal)
    (hX : m ((d : Thread Cert.ReferenceIdeal.nD Cert.ReferenceIdeal.τ).loc Cert.ReferenceIdeal.main_arg0) = X) :
    (ending m d (Proc.devRef .tc Cert.ReferenceIdeal.main_v109) : Cert.ReferenceIdeal.S32x64x16384.Idx → EReal) = results X := by
  have hrows : ∀ b, rows (Cert.KernelIdeal.Gen.k0_pay4 (F := Ideal) (slab X b)) = datum m d b := by
    intro b
    rw [rows_slab, ← hX]
    rfl
  have hall : ∀ (b : Fin 32) (i : Fin 64) (j : Fin 16384),
      (ending m d (Proc.devRef .tc Cert.ReferenceIdeal.main_v109) : Cert.ReferenceIdeal.S32x64x16384.Idx → EReal) (ix3 b i j)
        = member (slab X b) (ix3 0 i j) := by
    intro b i j
    have hb := hrows b
    unfold member
    rcases real_or_infinite (datum m d b) with ⟨r, hr⟩ | ⟨i₀, k₀, h⟩
    · obtain ⟨e, γ, he, hγ, hc, hn⟩ := cov_real r
      rw [← hr] at hc hn
      rw [result_real m d b r hr he hγ hc hn]
      rw [← hb] at hr hc hn
      exact (whitened_real _ r hr he hγ hc hn i j).symm
    · rw [result_infinite m d b h]
      rw [← hb] at h
      exact (whitened_infinite _ h i j).symm
  funext y
  have hy := hall (y 0) (y 1) (y 2)
  rw [eq_ix3 y]
  exact hy

end Cert.Whitening

end
-- ==== Proof.lean ====
/- The certificate: the two kernels and the reference run and keep their argument, and the ideal kernel leaves the
   array that the reference leaves. The witnesses of the programs' stated facts come first. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation

@[expose] public section

noncomputable section

namespace Cert.Proof

open Idealize.ShloMosaic Idealize.ShloMosaic.TcCoe Idealize.SL.Sem Cert.Whitening

instance : Cert.Kernel.Facts := Cert.Kernel.Gen.facts
instance : Cert.KernelIdeal.Facts := Cert.KernelIdeal.Gen.facts
instance : Cert.ReferenceIdeal.Facts := Cert.ReferenceIdeal.Gen.facts

/-- The reference runs, keeps its argument and leaves every counter at zero: it has none. -/
theorem reference_quiescent : Cert.quiescent_ReferenceIdeal := fun m ρ _ =>
  (θ_run _ _ _).mono (fun r h => ⟨fun c => (h c Cert.ReferenceIdeal.main_arg0 rfl).trans (argument_kept m c), sem_eq_zero_of_no_sems (by decide) r.2⟩)
    (Cert.ReferenceIdeal.Value.run_fold m ρ)

/-- The equation of the two runs. -/
theorem equal_results : Cert.algebraic_KernelIdeal_ReferenceIdeal := fun m ρ m' ρ' _ hargs =>
  ⟨fun c => results (m ((c.tc : Thread Cert.KernelIdeal.nD Cert.KernelIdeal.τ).loc Cert.KernelIdeal.main_arg0)),
    (θ_run _ _ _).mono (fun r h c => ⟨(h c).1.trans (kernel_array m c), (h c).2⟩) (Cert.KernelIdeal.Value.run_blocks m ρ),
    (θ_run _ _ _).mono (fun r h c => ⟨(h c Cert.ReferenceIdeal.main_v109 rfl).trans (results_eq m' c _ (hargs c)),
      (h c Cert.ReferenceIdeal.main_arg0 rfl).trans (argument_kept m' c)⟩) (Cert.ReferenceIdeal.Value.run_fold m' ρ')⟩

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_quiescent, trivial, equal_results⟩

end Cert.Proof

end
